-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

class Facts : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  bcast_S_S8192x256 : S_.BroadcastsInDim S8192x256 (![] : Fin 0 → Fin S8192x256.rank)
  reducesTo_S8192x256_S_d0_1 : S8192x256.ReducesTo [0, 1] S_
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def fn_part1 {F : FTy → Type} [FloatOps F] (main_v11 : FVec F S8192x8192 .f32) (main_v15 : IVec S_ 1) (main_v17 : IVec S8192x8192 1) (main_cst_3 : FVec F S_ .f32) : IVec S_ 1 :=
  let main_v18 : FVec F S8192x8192 .f32 := broadcastInDim S8192x8192 ![] bcast_S_S8192x8192 main_cst_3
  let main_v19 : IVec S8192x8192 1 := cmpf .ogt main_v11 main_v18
  let main_v20 : IVec S8192x8192 1 := ori main_v17 main_v19
  let main_c_4 : IVec S_ 1 := constantI S_ 1 1#1
  let main_v21 : IVec S_ 1 := (fun x v => Host.reduce IntOp.andi x v reducesTo_S8192x8192_S_d0_1 h_S_) main_v20 main_c_4
  let main_v22 : IVec S_ 1 := andi main_v15 main_v21
  main_v22

def fn {F : FTy → Type} [FloatOps F] (main_arg0 : FVec F S8192x256 .f32) (main_arg1 : IVec S8192 32) : IVec S_ 1 :=
  let main_v0 : FVec F S8192x256 .f32 := mulf main_arg0 main_arg0
  let main_cst : FVec F S_ .f32 := constant S_ .f32 0x00000000#32
  let main_v1 : FVec F S8192 .f32 := (fun x v => Host.reduceAdd x v reducesTo_S8192x256_S8192_d1 h_S_) main_v0 main_cst
  let main_v2 : FVec F S8192x1 .f32 := broadcastInDim S8192x1 ![0] bcast_S8192_S8192x1_0 main_v1
  let main_v3 : FVec F S1x8192 .f32 := broadcastInDim S1x8192 ![1] bcast_S8192_S1x8192_1 main_v1
  let main_v4 : FVec F S8192x8192 .f32 := broadcastInDim S8192x8192 ![0, 1] bcast_S8192x1_S8192x8192_0_1 main_v2
  let main_v5 : FVec F S8192x8192 .f32 := broadcastInDim S8192x8192 ![0, 1] bcast_S1x8192_S8192x8192_0_1 main_v3
  let main_v6 : FVec F S8192x8192 .f32 := addf main_v4 main_v5
  let main_v7 : FVec F S256x8192 .f32 := (transpose S256x8192 [1, 0] · transposes_S8192x256_S256x8192_1_0) main_arg0
  let main_v8 : FVec F S8192x8192 .f32 := (fun l r => Host.dotGeneral dot_S8192x256_S256x8192_S8192x8192_1_0_0_1_n_n none l r) main_arg0 main_v7
  let main_cst_0 : FVec F S_ .f32 := constant S_ .f32 0x40000000#32
  let main_v9 : FVec F S8192x8192 .f32 := broadcastInDim S8192x8192 ![] bcast_S_S8192x8192 main_cst_0
  let main_v10 : FVec F S8192x8192 .f32 := mulf main_v9 main_v8
  let main_v11 : FVec F S8192x8192 .f32 := subf main_v6 main_v10
  let main_v12 : FVec F S8192x256 .f32 := Host.absf main_arg0
  let main_cst_1 : FVec F S_ .f32 := constant S_ .f32 0x7F800000#32
  let main_v13 : FVec F S8192x256 .f32 := broadcastInDim S8192x256 ![] bcast_S_S8192x256 main_cst_1
  let main_v14 : IVec S8192x256 1 := cmpf .olt main_v12 main_v13
  let main_c : IVec S_ 1 := constantI S_ 1 1#1
  let main_v15 : IVec S_ 1 := (fun x v => Host.reduce IntOp.andi x v reducesTo_S8192x256_S_d0_1 h_S_) main_v14 main_c
  let main_cst_2 : FVec F S_ .f32 := constant S_ .f32 0x00000000#32
  let main_v16 : FVec F S8192x8192 .f32 := broadcastInDim S8192x8192 ![] bcast_S_S8192x8192 main_cst_2
  let main_v17 : IVec S8192x8192 1 := cmpf .ole main_v11 main_v16
  let main_cst_3 : FVec F S_ .f32 := constant S_ .f32 0x2B8CBCCC#32
  fn_part1 (F := F) main_v11 main_v15 main_v17 main_cst_3
-- ==== Kernel.lean ====
abbrev S8192x256 : Shape := ⟨2, ![8192, 256]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S1024 : Shape := ⟨1, ![1024]⟩
abbrev S4x1x2048 : Shape := ⟨3, ![4, 1, 2048]⟩
abbrev S8x1024x1 : Shape := ⟨3, ![8, 1024, 1]⟩
abbrev S2048x256 : Shape := ⟨2, ![2048, 256]⟩
abbrev S1x1024x1 : Shape := ⟨3, ![1, 1024, 1]⟩
abbrev S1x1x2048 : Shape := ⟨3, ![1, 1, 2048]⟩
abbrev S1x2048 : Shape := ⟨2, ![1, 2048]⟩
abbrev S256x256 : Shape := ⟨2, ![256, 256]⟩
abbrev S1x256x1 : Shape := ⟨3, ![1, 256, 1]⟩
abbrev S256x1 : Shape := ⟨2, ![256, 1]⟩
abbrev S256x2048 : Shape := ⟨2, ![256, 2048]⟩
abbrev S2048 : Shape := ⟨1, ![2048]⟩
abbrev S_ : Shape := ⟨0, ![]⟩
abbrev S1x1 : Shape := ⟨2, ![1, 1]⟩
abbrev S1 : Shape := ⟨1, ![1]⟩

abbrev nBuf : Space → Nat
  | .hbm => 64
  | .vmem => 38
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .bf16⟩
  | .hbm, ⟨3, _⟩ => ⟨S8192x1, .f32⟩
  | .hbm, ⟨4, _⟩ => ⟨S4x1x2048, .i32⟩
  | .hbm, ⟨5, _⟩ => ⟨S8x1024x1, .i32⟩
  | .hbm, ⟨6, _⟩ => ⟨S8x1024x1, .f32⟩
  | .hbm, ⟨7, _⟩ => ⟨S4x1x2048, .i32⟩
  | .hbm, ⟨8, _⟩ => ⟨S4x1x2048, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S_, .i1⟩
  | .hbm, ⟨26, _⟩ => ⟨S8192, .i1⟩
  | .hbm, ⟨27, _⟩ => ⟨S8192, .i1⟩
  | .hbm, ⟨28, _⟩ => ⟨S8192, .i1⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x256, .f32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S_, .i1⟩
  | .hbm, ⟨49, _⟩ => ⟨S8192, .i1⟩
  | .hbm, ⟨50, _⟩ => ⟨S8192, .i1⟩
  | .hbm, ⟨51, _⟩ => ⟨S8192, .i1⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S8192x256, .f32⟩
  | .hbm, ⟨57, _⟩ => ⟨S1x1, .f32⟩
  | .hbm, ⟨58, _⟩ => ⟨S1x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S2048x256, .bf16⟩
  | .local _ .vmem, ⟨7, _⟩ => ⟨S2048x256, .bf16⟩
  | .local _ .vmem, ⟨8, _⟩ => ⟨S1024x256, .bf16⟩
  | .local _ .vmem, ⟨9, _⟩ => ⟨S1024x256, .bf16⟩
  | .local _ .vmem, ⟨10, _⟩ => ⟨S1x1024x1, .f32⟩
  | .local _ .vmem, ⟨11, _⟩ => ⟨S1x1024x1, .f32⟩
  | .local _ .vmem, ⟨12, _⟩ => ⟨S1x1x2048, .i32⟩
  | .local _ .vmem, ⟨13, _⟩ => ⟨S1x1x2048, .i32⟩
  | .local _ .vmem, ⟨14, _⟩ => ⟨S1x1024x1, .i32⟩
  | .local _ .vmem, ⟨15, _⟩ => ⟨S1x1024x1, .i32⟩
  | .local _ .vmem, ⟨16, _⟩ => ⟨S1x1x2048, .i32⟩
  | .local _ .vmem, ⟨17, _⟩ => ⟨S1x1x2048, .i32⟩
  | .local _ .vmem, ⟨18, _⟩ => ⟨S1x1x2048, .i32⟩
  | .local _ .vmem, ⟨19, _⟩ => ⟨S1x1x2048, .i32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x1, .f32⟩
  | .local _ .vmem, ⟨33, _⟩ => ⟨S1024x1, .f32⟩
  | .local _ .vmem, ⟨34, _⟩ => ⟨S1x1, .f32⟩
  | .local _ .vmem, ⟨35, _⟩ => ⟨S1x1, .f32⟩
  | .local _ .vmem, ⟨36, _⟩ => ⟨S1x1, .f32⟩
  | .local _ .vmem, ⟨37, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_call0_c : Ref sig .tc := ⟨.hbm, 12, rfl⟩
abbrev main_call0_call0_v0 : Ref sig .tc := ⟨.hbm, 13, rfl⟩
abbrev main_call0_call0_c_0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_c_1 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_c_2 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_c_3 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_v0 : Ref sig .tc := ⟨.hbm, 31, rfl⟩
abbrev main_call0_v1 : Ref sig .tc := ⟨.hbm, 32, rfl⟩
abbrev main_v7 : Ref sig .tc := ⟨.hbm, 33, rfl⟩
abbrev main_call1_c : Ref sig .tc := ⟨.hbm, 34, rfl⟩
abbrev main_call1_call0_c : Ref sig .tc := ⟨.hbm, 35, rfl⟩
abbrev main_call1_call0_v0 : Ref sig .tc := ⟨.hbm, 36, rfl⟩
abbrev main_call1_call0_c_0 : Ref sig .tc := ⟨.hbm, 37, rfl⟩
abbrev main_call1_call0_v1 : Ref sig .tc := ⟨.hbm, 38, rfl⟩
abbrev main_call1_call0_v2 : Ref sig .tc := ⟨.hbm, 39, rfl⟩
abbrev main_call1_call0_v3 : Ref sig .tc := ⟨.hbm, 40, rfl⟩
abbrev main_call1_call0_c_1 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_c_2 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_c_3 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_call0_v12 : Ref sig .tc := ⟨.hbm, 52, rfl⟩
abbrev main_call1_call0_v13 : Ref sig .tc := ⟨.hbm, 53, rfl⟩
abbrev main_call1_v0 : Ref sig .tc := ⟨.hbm, 54, rfl⟩
abbrev main_call1_v1 : Ref sig .tc := ⟨.hbm, 55, rfl⟩
abbrev main_v8 : Ref sig .tc := ⟨.hbm, 56, rfl⟩
abbrev main_v9_0 : Ref sig .tc := ⟨.hbm, 57, rfl⟩
abbrev main_v9_1 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst : Ref sig .tc := ⟨.hbm, 62, rfl⟩
abbrev main_v13 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc1_scratch4 : Ref sig .tc := ⟨.vmem, 24, rfl⟩
abbrev cc1_scratch5 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg5_0 : Ref sig .tc := ⟨.vmem, 35, rfl⟩
abbrev cc2_scratch0 : Ref sig .tc := ⟨.vmem, 36, rfl⟩
abbrev cc2_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v319 : BitVec 1 := Scalar.cmpi .eq arg1 c7_i32
  let v320 : BitVec 32 := Scalar.extui v319
  let c0_i32_145 : BitVec 32 := 0#32
  let v321 : BitVec 1 := Scalar.cmpi .ne v320 c0_i32_145
  v321

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x2048 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x2048 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v71 : BitVec 1 := Scalar.cmpi .eq arg0 c7_i32
  let v72 : BitVec 32 := Scalar.extui v71
  let c0_i32_32 : BitVec 32 := 0#32
  let v73 : BitVec 1 := Scalar.cmpi .ne v72 c0_i32_32
  v73

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩
abbrev S8192x2 : Shape := ⟨2, ![8192, 2]⟩

abbrev nBuf : Space → Nat
  | .hbm => 186
  | .vmem => 0
  | .smem => 0
  | _ => 0

abbrev hbmTy0_0 (i : Nat) : BufTy := match i % 128 with
  | 0 => ⟨S8192x256, .f32⟩
  | 1 => ⟨S8192, .i32⟩
  | 2 => ⟨S8192x256, .f32⟩
  | 3 => ⟨S_, .f32⟩
  | 4 => ⟨S8192, .f32⟩
  | 5 => ⟨S8192x1, .f32⟩
  | 6 => ⟨S1x8192, .f32⟩
  | 7 => ⟨S8192x8192, .f32⟩
  | 8 => ⟨S8192x8192, .f32⟩
  | 9 => ⟨S8192x8192, .f32⟩
  | 10 => ⟨S256x8192, .f32⟩
  | 11 => ⟨S8192x8192, .f32⟩
  | 12 => ⟨S_, .f32⟩
  | 13 => ⟨S8192x8192, .f32⟩
  | 14 => ⟨S8192x8192, .f32⟩
  | 15 => ⟨S8192x8192, .f32⟩
  | 16 => ⟨S_, .f32⟩
  | 17 => ⟨S_, .f32⟩
  | 18 => ⟨S8192x8192, .f32⟩
  | 19 => ⟨S8192x8192, .f32⟩
  | 20 => ⟨S8192x8192, .f32⟩
  | 21 => ⟨S8192x1, .i32⟩
  | 22 => ⟨S1x8192, .i32⟩
  | 23 => ⟨S8192x8192, .i32⟩
  | 24 => ⟨S8192x8192, .i32⟩
  | 25 => ⟨S8192x8192, .i1⟩
  | 26 => ⟨S_, .f32⟩
  | 27 => ⟨S_, .f32⟩
  | 28 => ⟨S8192x8192, .f32⟩
  | 29 => ⟨S8192x8192, .f32⟩
  | 30 => ⟨S8192x8192, .i32⟩
  | 31 => ⟨S_, .f32⟩
  | 32 => ⟨S_, .i32⟩
  | 33 => ⟨S8192, .f32⟩
  | 34 => ⟨S8192, .i32⟩
  | 35 => ⟨S_, .f32⟩
  | 36 => ⟨S_, .f32⟩
  | 37 => ⟨S8192x8192, .f32⟩
  | 38 => ⟨S8192x8192, .f32⟩
  | 39 => ⟨S8192x8192, .i32⟩
  | 40 => ⟨S_, .f32⟩
  | 41 => ⟨S_, .i32⟩
  | 42 => ⟨S8192, .f32⟩
  | 43 => ⟨S8192, .i32⟩
  | 44 => ⟨S8192x8192, .i32⟩
  | 45 => ⟨S_, .i32⟩
  | 46 => ⟨S_, .i32⟩
  | 47 => ⟨S8192x8192, .i32⟩
  | 48 => ⟨S8192x8192, .i1⟩
  | 49 => ⟨S8192x8192, .i32⟩
  | 50 => ⟨S_, .i32⟩
  | 51 => ⟨S_, .i32⟩
  | 52 => ⟨S8192x8192, .i32⟩
  | 53 => ⟨S8192, .i32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S8192x1, .i32⟩
  | 70 => ⟨S8192x2, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x1, .i32⟩
  | 91 => ⟨S8192x2, .i32⟩
  | 92 => ⟨S8192, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x1, .i32⟩
  | 112 => ⟨S8192x2, .i32⟩
  | 113 => ⟨S8192, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S8192x256, .f32⟩

abbrev hbmTy0_1 (i : Nat) : BufTy := match i % 128 with
  | 0 => ⟨S8192x1, .i32⟩
  | 1 => ⟨S8192x1, .i32⟩
  | 2 => ⟨S8192x2, .i32⟩
  | 3 => ⟨S8192, .f32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x1, .i32⟩
  | 20 => ⟨S8192x2, .i32⟩
  | 21 => ⟨S8192, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S8192x1, .i32⟩
  | 38 => ⟨S8192x2, .i32⟩
  | 39 => ⟨S8192, .f32⟩
  | 40 => ⟨S8192, .f32⟩
  | 41 => ⟨S8192, .f32⟩
  | 42 => ⟨S8192, .f32⟩
  | 43 => ⟨S_, .f32⟩
  | 44 => ⟨S8192, .f32⟩
  | 45 => ⟨S8192, .f32⟩
  | 46 => ⟨S_, .f32⟩
  | 47 => ⟨S8192, .f32⟩
  | 48 => ⟨S8192, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v19 : Ref sig .tc := ⟨.hbm, 29, rfl⟩
abbrev main_call2_v0 : Ref sig .tc := ⟨.hbm, 30, rfl⟩
abbrev main_call2_cst : Ref sig .tc := ⟨.hbm, 31, rfl⟩
abbrev main_call2_c : Ref sig .tc := ⟨.hbm, 32, rfl⟩
abbrev main_call2_v1_0 : Ref sig .tc := ⟨.hbm, 33, rfl⟩
abbrev main_v20 : Ref sig .tc := ⟨.hbm, 34, rfl⟩
abbrev main_cst_3 : Ref sig .tc := ⟨.hbm, 35, rfl⟩
abbrev main_call3_v0 : Ref sig .tc := ⟨.hbm, 36, rfl⟩
abbrev main_call3_v1 : Ref sig .tc := ⟨.hbm, 37, rfl⟩
abbrev main_v21 : Ref sig .tc := ⟨.hbm, 38, rfl⟩
abbrev main_call4_v0 : Ref sig .tc := ⟨.hbm, 39, rfl⟩
abbrev main_call4_cst : Ref sig .tc := ⟨.hbm, 40, rfl⟩
abbrev main_call4_c : Ref sig .tc := ⟨.hbm, 41, rfl⟩
abbrev main_call4_v1_0 : Ref sig .tc := ⟨.hbm, 42, rfl⟩
abbrev main_v22 : Ref sig .tc := ⟨.hbm, 43, rfl⟩
abbrev main_v23 : Ref sig .tc := ⟨.hbm, 44, rfl⟩
abbrev main_call5_call0_c : Ref sig .tc := ⟨.hbm, 45, rfl⟩
abbrev main_call5_call0_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call6_call0_c : Ref sig .tc := ⟨.hbm, 50, rfl⟩
abbrev main_call6_call0_v0 : Ref sig .tc := ⟨.hbm, 51, rfl⟩
abbrev main_v27 : Ref sig .tc := ⟨.hbm, 52, rfl⟩
abbrev main_v28 : Ref sig .tc := ⟨.hbm, 53, rfl⟩
abbrev main_c : Ref sig .tc := ⟨.hbm, 54, rfl⟩
abbrev main_v29 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_7 : Ref sig .tc := ⟨.hbm, 72, rfl⟩
abbrev main_v43 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_c_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_12 : Ref sig .tc := ⟨.hbm, 93, rfl⟩
abbrev main_v59 : Ref sig .tc := ⟨.hbm, 94, rfl⟩
abbrev main_v60 : Ref sig .tc := ⟨.hbm, 95, rfl⟩
abbrev main_c_13 : Ref sig .tc := ⟨.hbm, 96, rfl⟩
abbrev main_v61 : Ref sig .tc := ⟨.hbm, 97, rfl⟩
abbrev main_v62 : Ref sig .tc := ⟨.hbm, 98, rfl⟩
abbrev main_c_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_15 : Ref sig .tc := ⟨.hbm, 103, rfl⟩
abbrev main_v66 : Ref sig .tc := ⟨.hbm, 104, rfl⟩
abbrev main_v67 : Ref sig .tc := ⟨.hbm, 105, rfl⟩
abbrev main_c_16 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_c_17 : Ref sig .tc := ⟨.hbm, 114, rfl⟩
abbrev main_v75 : Ref sig .tc := ⟨.hbm, 115, rfl⟩
abbrev main_v76 : Ref sig .tc := ⟨.hbm, 116, rfl⟩
abbrev main_c_18 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_19 : Ref sig .tc := ⟨.hbm, 121, rfl⟩
abbrev main_v80 : Ref sig .tc := ⟨.hbm, 122, rfl⟩
abbrev main_v81 : Ref sig .tc := ⟨.hbm, 123, rfl⟩
abbrev main_c_20 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_21 : Ref sig .tc := ⟨.hbm, 132, rfl⟩
abbrev main_v89 : Ref sig .tc := ⟨.hbm, 133, rfl⟩
abbrev main_v90 : Ref sig .tc := ⟨.hbm, 134, rfl⟩
abbrev main_c_22 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_c_23 : Ref sig .tc := ⟨.hbm, 139, rfl⟩
abbrev main_v94 : Ref sig .tc := ⟨.hbm, 140, rfl⟩
abbrev main_v95 : Ref sig .tc := ⟨.hbm, 141, rfl⟩
abbrev main_c_24 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_25 : Ref sig .tc := ⟨.hbm, 150, rfl⟩
abbrev main_v103 : Ref sig .tc := ⟨.hbm, 151, rfl⟩
abbrev main_v104 : Ref sig .tc := ⟨.hbm, 152, rfl⟩
abbrev main_c_26 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_c_27 : Ref sig .tc := ⟨.hbm, 157, rfl⟩
abbrev main_v108 : Ref sig .tc := ⟨.hbm, 158, rfl⟩
abbrev main_v109 : Ref sig .tc := ⟨.hbm, 159, rfl⟩
abbrev main_c_28 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_29 : Ref sig .tc := ⟨.hbm, 171, rfl⟩
abbrev main_v120 : Ref sig .tc := ⟨.hbm, 172, rfl⟩
abbrev main_v121 : Ref sig .tc := ⟨.hbm, 173, rfl⟩
abbrev main_call7_cst : Ref sig .tc := ⟨.hbm, 174, rfl⟩
abbrev main_call7_v0 : Ref sig .tc := ⟨.hbm, 175, rfl⟩
abbrev main_v122 : Ref sig .tc := ⟨.hbm, 176, rfl⟩
abbrev main_cst_30 : Ref sig .tc := ⟨.hbm, 177, rfl⟩
abbrev main_v123 : Ref sig .tc := ⟨.hbm, 178, rfl⟩
abbrev main_cst_31 : Ref sig .tc := ⟨.hbm, 179, rfl⟩
abbrev main_v124 : Ref sig .tc := ⟨.hbm, 180, rfl⟩
abbrev main_cst_32 : Ref sig .tc := ⟨.hbm, 181, rfl⟩
abbrev main_v125 : Ref sig .tc := ⟨.hbm, 182, rfl⟩
abbrev main_cst_33 : Ref sig .tc := ⟨.hbm, 183, rfl⟩
abbrev main_v126 : Ref sig .tc := ⟨.hbm, 184, rfl⟩
abbrev main_v127 : Ref sig .tc := ⟨.hbm, 185, rfl⟩

abbrev nD : Nat := 1
abbrev τ : Topo := Topo.v7x

variable {F : FTy → Type} [FloatOps F]
-- ==== Proof.KI.PrepRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! The preparation kernel: one block of rows cast, and half its squared row norms. -/

def wholeP (x : Vec F S1024x256 .f32) : Vec F S1024x256 .f32 := fun y => x ((Rect.unit (s := S1024x256) ![0, 0] S1024x256.size inb_S1024x256_S1024x256_0_0).toLoadRect.idx y)
theorem wholeP_eq (x : Vec F S1024x256 .f32) : wholeP x = x := by
  funext y; refine congrArg x (funext fun a => Fin.ext ?_); fin_cases a <;> (show 0 + 1 * _ = _; omega)

/-- The preparation kernel on any block. -/
theorem prep_run (c : Dev nD) (i : grid0.Coords) (arg1 : Memref sig .tc .vmem S1024x256 .f32) (harg1 : arg1.IsWhole) (arg2 : Memref sig .tc .vmem S1024x256 .bf16) (harg2 : arg2.IsWhole) (arg3 : Memref sig .tc .vmem S1024x1 .f32) (harg3 : arg3.IsWhole)
    (x0 : Vec F S1024x256 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay1 x0) ∗ owns (c : Thread nD τ) arg3 fullShare (k0_pay2 x0)) -∗ K ⟨⟩))
      ⊢ wp frame (wpE (defs₀ (F := F)) Variants.none c none) E (cc0_prep_norms i arg1 harg1 arg2 harg2 arg3 harg3) K := by
  simp only [cc0_prep_norms_eq_skeleton]; unfold cc0_prep_norms_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact (View.read_writes_full _ _ _ _ _).trans (congrArg k0_pay1 (wholeP_eq _))
  iexists _; isplitr
  swap; · iexact H2
  ipureintro
  exact (View.read_writes_full _ _ _ _ _).trans (congrArg k0_pay2 (wholeP_eq _))

end Cert.KernelIdeal.Hand

end
-- ==== Proof.KI.Dat0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.KI.PrepRun

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The proof data of the preparation pipeline. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
    | ⟨2, _⟩ => k0_pay2 (iblk0 V c 0 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]
theorem after0_2 (c : Dev nD) (t : Fin cfg0.N) : (dat0 V c).after 2 t = k0_pay2 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (prep_run c (grid0.coords t) _ _ _ _ _ _ (iblk0 V c 0 t) Set.univ _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.KI.MineStep.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What the mining kernel carries between the column blocks: the best score of either side, the rank counts that
    name it, and how many columns of either side came before. -/
@[ext] structure MineSt (F : FTy → Type) where
  mx : Vec F S1x2048 .f32
  mn : Vec F S1x2048 .f32
  cj : Vec F S1x2048 .f32
  ck : Vec F S1x2048 .f32
  tp : Vec F S1x2048 .f32
  tn : Vec F S1x2048 .f32

/-- Before the first column block. -/
def mineInit : MineSt F := ⟨k1_pay3, k1_pay4, k1_pay5, k1_pay6, k1_pay7, k1_pay8⟩

/-- One chunk of 256 columns. -/
def mineChunk (a : Vec F S2048x256 .bf16) (ta : Vec F S1x1x2048 .i32) (b : Vec F S256x256 .bf16) (tb : Vec F S1x256x1 .i32)
    (sq : Vec F S1x256x1 .f32) (st : MineSt F) : MineSt F :=
  let s := k1_pay11 a b sq
  let m := k1_pay12 (F := F) ta tb
  let p := k1_pay13 a ta b tb sq
  let inf : F .f32 := Scalar.ofBits .f32 0x7F800000#32
  { mx := k1_pay25 st.mx (k1_pay15 p)
    mn := k1_pay28 st.mn (k1_pay16 s m inf)
    cj := k1_pay24 st.mx st.cj st.tp (k1_pay15 p) (k1_pay18 m p)
    ck := k1_pay27 st.mn st.ck st.tn (k1_pay16 s m inf) (k1_pay19 s m inf)
    tp := k1_pay29 st.tp m k1_pay20 k1_pay21
    tn := k1_pay30 st.tn m k1_pay20 k1_pay21 }

/-- The same, as the second, third and fourth chunk of a block spell it. -/
def mineChunk1 (a : Vec F S2048x256 .bf16) (ta : Vec F S1x1x2048 .i32) (b : Vec F S256x256 .bf16) (tb : Vec F S1x256x1 .i32)
    (sq : Vec F S1x256x1 .f32) (st : MineSt F) : MineSt F :=
  let v4 := k1_pay9 a
  let v6 := k1_pay10 (F := F) ta
  { mx := k1_pay42 st.mx (k1_pay35 v4 v6 b tb sq)
    mn := k1_pay45 st.mn (k1_pay36 v4 v6 b tb sq)
    cj := k1_pay41 st.cj st.mx st.tp (k1_pay32 (F := F) v6 tb) (k1_pay35 v4 v6 b tb sq) k1_pay37 (k1_pay38 v4 v6 b tb sq)
    ck := k1_pay44 st.ck st.mn st.tn (k1_pay32 (F := F) v6 tb) (k1_pay34 v4 v6 b tb sq) (k1_pay36 v4 v6 b tb sq) k1_pay37
    tp := k1_pay46 st.tp (k1_pay32 (F := F) v6 tb)
    tn := k1_pay47 st.tn (k1_pay32 (F := F) v6 tb) }
def mineChunk2 (a : Vec F S2048x256 .bf16) (ta : Vec F S1x1x2048 .i32) (b : Vec F S256x256 .bf16) (tb : Vec F S1x256x1 .i32)
    (sq : Vec F S1x256x1 .f32) (st : MineSt F) : MineSt F :=
  let v4 := k1_pay9 a
  let v6 := k1_pay10 (F := F) ta
  { mx := k1_pay61 st.mx (k1_pay52 v4 v6 b tb sq)
    mn := k1_pay64 st.mn (k1_pay53 v4 v6 b tb sq)
    cj := k1_pay60 st.cj st.mx st.tp (k1_pay49 (F := F) v6 tb) (k1_pay52 v4 v6 b tb sq) (k1_pay56 v4 v6 b tb sq)
    ck := k1_pay63 st.ck st.mn st.tn (k1_pay49 (F := F) v6 tb) (k1_pay53 v4 v6 b tb sq) (k1_pay55 v4 v6 b tb sq) (k1_pay57 v4 v6 b tb sq) (Scalar.ofBits .f32 0x3F800000#32)
    tp := k1_pay65 st.tp (k1_pay49 (F := F) v6 tb)
    tn := k1_pay66 st.tn (k1_pay49 (F := F) v6 tb) }
def mineChunk3 (a : Vec F S2048x256 .bf16) (ta : Vec F S1x1x2048 .i32) (b : Vec F S256x256 .bf16) (tb : Vec F S1x256x1 .i32)
    (sq : Vec F S1x256x1 .f32) (st : MineSt F) : MineSt F :=
  let v6 := k1_pay10 (F := F) ta
  let v237 := k1_pay67 (k1_pay9 a) b sq
  let v238 := k1_pay68 (F := F) tb
  { mx := k1_pay82 st.mx (k1_pay72 v6 v237 v238)
    mn := k1_pay83 st.mn (k1_pay73 v6 v237 v238)
    cj := k1_pay84 st.cj st.mx st.tp (k1_pay72 v6 v237 v238) (k1_pay76 v6 v237 v238)
    ck := k1_pay85 st.ck st.mn st.tn (k1_pay73 v6 v237 v238) (k1_pay75 v6 v237 v238) (k1_pay77 v6 v237 v238) k1_pay78
    tp := k1_pay86 st.tp (k1_pay69 v6 v238)
    tn := k1_pay87 st.tn (k1_pay69 v6 v238) }

section Chunks

variable (a : Vec F S2048x256 .bf16) (ta : Vec F S1x1x2048 .i32) (b : Vec F S256x256 .bf16) (tb : Vec F S1x256x1 .i32)
  (sq : Vec F S1x256x1 .f32) (st : MineSt F)

theorem mineChunk1_eq : mineChunk1 a ta b tb sq st = mineChunk a ta b tb sq st := by
  refine MineSt.ext ?_ ?_ ?_ ?_ ?_ ?_ <;> rfl
theorem mineChunk2_eq : mineChunk2 a ta b tb sq st = mineChunk a ta b tb sq st := by
  refine MineSt.ext ?_ ?_ ?_ ?_ ?_ ?_ <;> rfl
theorem mineChunk3_eq : mineChunk3 a ta b tb sq st = mineChunk a ta b tb sq st := by
  refine MineSt.ext ?_ ?_ ?_ ?_ ?_ ?_ <;>
    simp only [mineChunk3, k1_pay82, k1_pay83, k1_pay84, k1_pay85, k1_pay86, k1_pay87, shapeCast_self] <;> rfl

end Chunks

/-- Rows `0 … 255`, `256 … 511`, … of a column block and of what goes with it. -/
def rowsB0 (x : Vec F S1024x256 .bf16) : Vec F S256x256 .bf16 := fun y => x ((Rect.unit (s := S1024x256) ![0, 0] S256x256.size inb_S1024x256_S256x256_0_0).toLoadRect.idx y)
def rowsB1 (x : Vec F S1024x256 .bf16) : Vec F S256x256 .bf16 := fun y => x ((Rect.unit (s := S1024x256) ![256, 0] S256x256.size inb_S1024x256_S256x256_256_0).toLoadRect.idx y)
def rowsB2 (x : Vec F S1024x256 .bf16) : Vec F S256x256 .bf16 := fun y => x ((Rect.unit (s := S1024x256) ![512, 0] S256x256.size inb_S1024x256_S256x256_512_0).toLoadRect.idx y)
def rowsB3 (x : Vec F S1024x256 .bf16) : Vec F S256x256 .bf16 := fun y => x ((Rect.unit (s := S1024x256) ![768, 0] S256x256.size inb_S1024x256_S256x256_768_0).toLoadRect.idx y)
def rowsC0 {α : Type} (x : S1x1024x1.Idx → α) : S1x256x1.Idx → α := fun y => x ((Rect.unit (s := S1x1024x1) ![0, 0, 0] S1x256x1.size inb_S1x1024x1_S1x256x1_0_0_0).toLoadRect.idx y)
def rowsC1 {α : Type} (x : S1x1024x1.Idx → α) : S1x256x1.Idx → α := fun y => x ((Rect.unit (s := S1x1024x1) ![0, 256, 0] S1x256x1.size inb_S1x1024x1_S1x256x1_0_256_0).toLoadRect.idx y)
def rowsC2 {α : Type} (x : S1x1024x1.Idx → α) : S1x256x1.Idx → α := fun y => x ((Rect.unit (s := S1x1024x1) ![0, 512, 0] S1x256x1.size inb_S1x1024x1_S1x256x1_0_512_0).toLoadRect.idx y)
def rowsC3 {α : Type} (x : S1x1024x1.Idx → α) : S1x256x1.Idx → α := fun y => x ((Rect.unit (s := S1x1024x1) ![0, 768, 0] S1x256x1.size inb_S1x1024x1_S1x256x1_0_768_0).toLoadRect.idx y)

/-- One column block: its four chunks in turn. -/
def mineStep (x0 : Vec F S2048x256 .bf16) (x1 : Vec F S1024x256 .bf16) (x2 : Vec F S1x1024x1 .f32) (x3 : Vec F S1x1x2048 .i32)
    (x4 : Vec F S1x1024x1 .i32) (st : MineSt F) : MineSt F :=
  mineChunk x0 x3 (rowsB3 x1) (rowsC3 x4) (rowsC3 x2)
    (mineChunk x0 x3 (rowsB2 x1) (rowsC2 x4) (rowsC2 x2)
      (mineChunk x0 x3 (rowsB1 x1) (rowsC1 x4) (rowsC1 x2)
        (mineChunk x0 x3 (rowsB0 x1) (rowsC0 x4) (rowsC0 x2) st)))

/-- The same, each chunk as the kernel spells it. -/
def mineStepP (x0 : Vec F S2048x256 .bf16) (x1 : Vec F S1024x256 .bf16) (x2 : Vec F S1x1024x1 .f32) (x3 : Vec F S1x1x2048 .i32)
    (x4 : Vec F S1x1024x1 .i32) (st : MineSt F) : MineSt F :=
  mineChunk3 x0 x3 (rowsB3 x1) (rowsC3 x4) (rowsC3 x2)
    (mineChunk2 x0 x3 (rowsB2 x1) (rowsC2 x4) (rowsC2 x2)
      (mineChunk1 x0 x3 (rowsB1 x1) (rowsC1 x4) (rowsC1 x2)
        (mineChunk x0 x3 (rowsB0 x1) (rowsC0 x4) (rowsC0 x2) st)))

/-- A load of a whole buffer, spelled as the kernel spells it. -/
def whole2 (x : Vec F S1x2048 .f32) : Vec F S1x2048 .f32 := fun y => x ((Rect.unit (s := S1x2048) ![0, 0] S1x2048.size inb_S1x2048_S1x2048_0_0).toLoadRect.idx y)
def wholeA (x : Vec F S2048x256 .bf16) : Vec F S2048x256 .bf16 := fun y => x ((Rect.unit (s := S2048x256) ![0, 0] S2048x256.size inb_S2048x256_S2048x256_0_0).toLoadRect.idx y)
def wholeT (x : Vec F S1x1x2048 .i32) : Vec F S1x1x2048 .i32 := fun y => x ((Rect.unit (s := S1x1x2048) ![0, 0, 0] S1x1x2048.size inb_S1x1x2048_S1x1x2048_0_0_0).toLoadRect.idx y)
theorem whole2_eq (x : Vec F S1x2048 .f32) : whole2 x = x := by
  funext y; refine congrArg x (funext fun a => Fin.ext ?_); fin_cases a <;> (show 0 + 1 * _ = _; omega)
theorem wholeA_eq (x : Vec F S2048x256 .bf16) : wholeA x = x := by
  funext y; refine congrArg x (funext fun a => Fin.ext ?_); fin_cases a <;> (show 0 + 1 * _ = _; omega)
theorem wholeT_eq (x : Vec F S1x1x2048 .i32) : wholeT x = x := by
  funext y; refine congrArg x (funext fun a => Fin.ext ?_); fin_cases a <;> (show 0 + 1 * _ = _; omega)

/-- A state as its six loads read it. -/
def MineSt.loaded (st : MineSt F) : MineSt F := ⟨whole2 st.mx, whole2 st.mn, whole2 st.cj, whole2 st.ck, whole2 st.tp, whole2 st.tn⟩
theorem MineSt.loaded_eq (st : MineSt F) : st.loaded = st := by
  unfold MineSt.loaded; simp only [whole2_eq]

/-- The first conditional's test: the first column block of a row block. -/
abbrev mineFirst (i : grid1.Coords) : Prop := (Scalar.cmpi .ne (Scalar.extui (Scalar.cmpi .eq (BitVec.ofNat 32 (i 1).val) 0#32)) 0#32) = 1#1
/-- The second's: the last. -/
abbrev mineLast (i : grid1.Coords) : Prop := k1_cond2 i = 1#1

theorem mineFirst_iff (t : Fin cfg1.N) : mineFirst (grid1.coords t) ↔ t.val % 8 = 0 := by
  have ht : t.val < 32 := Nat.lt_of_lt_of_eq t.isLt N_1
  have e1 : (grid1.coords t 1).val = t.val / 1 % 8 := Pipeline.Grid.coords_val t 1 (by decide) rfl
  simp only [mineFirst, e1]
  word_cmp
theorem mineLast_iff (t : Fin cfg1.N) : mineLast (grid1.coords t) ↔ t.val % 8 = 7 := by
  have ht : t.val < 32 := Nat.lt_of_lt_of_eq t.isLt N_1
  have e1 : (grid1.coords t 1).val = t.val / 1 % 8 := Pipeline.Grid.coords_val t 1 (by decide) rfl
  simp only [mineLast, k1_cond2, e1]
  word_cmp

/-- The carried scratch owned at a state. -/
def heldSt (c : Dev nD) (m0 m1 m2 m3 m4 m5 : Memref sig .tc .vmem S1x2048 .f32) (st : MineSt F) : sProp 𝕄 :=
  iprop(owns (c : Thread nD τ) m0 fullShare st.mx ∗ owns (c : Thread nD τ) m1 fullShare st.mn ∗ owns (c : Thread nD τ) m2 fullShare st.cj
    ∗ owns (c : Thread nD τ) m3 fullShare st.ck ∗ owns (c : Thread nD τ) m4 fullShare st.tp ∗ owns (c : Thread nD τ) m5 fullShare st.tn)

theorem mineStep_loaded (x0 : Vec F S2048x256 .bf16) (x1 : Vec F S1024x256 .bf16) (x2 : Vec F S1x1024x1 .f32) (x3 : Vec F S1x1x2048 .i32)
    (x4 : Vec F S1x1024x1 .i32) (st : MineSt F) : mineStepP (wholeA x0) x1 x2 (wholeT x3) x4 st.loaded = mineStep x0 x1 x2 x3 x4 st := by
  rw [wholeA_eq, wholeT_eq, st.loaded_eq]; unfold mineStepP mineStep; rw [mineChunk1_eq, mineChunk2_eq, mineChunk3_eq]

/-- The first block's loads, as they read what was just stored. -/
def covS (m : Memref sig .tc .vmem S1x2048 .f32) (w : Vec F S1x2048 .f32) : Vec F S1x2048 .f32 :=
  m.view.readCov [⟨Rect.unit ![0, 0] S1x2048.size inb_S1x2048_S1x2048_0_0, w⟩] (Rect.unit (s := S1x2048) ![0, 0] S1x2048.size inb_S1x2048_S1x2048_0_0).toLoadRect
theorem covS_eq (m : Memref sig .tc .vmem S1x2048 .f32) (w : Vec F S1x2048 .f32) : covS m w = w := View.readCov_full _ _ _ _ _
theorem mineStep_cov (x0 : Vec F S2048x256 .bf16) (x1 : Vec F S1024x256 .bf16) (x2 : Vec F S1x1024x1 .f32) (x3 : Vec F S1x1x2048 .i32)
    (x4 : Vec F S1x1024x1 .i32) (m0 m1 m2 m3 m4 m5 : Memref sig .tc .vmem S1x2048 .f32) :
    mineStepP (wholeA x0) x1 x2 (wholeT x3) x4 ⟨covS m0 k1_pay3, covS m1 k1_pay4, covS m2 k1_pay5, covS m3 k1_pay6, covS m4 k1_pay7, covS m5 k1_pay8⟩
      = mineStep x0 x1 x2 x3 x4 mineInit := by
  rw [wholeA_eq, wholeT_eq]; simp only [covS_eq]; unfold mineStepP mineStep; rw [mineChunk1_eq, mineChunk2_eq, mineChunk3_eq]; rfl

section Run

variable (c : Dev nD) (i : grid1.Coords) (arg2 : Memref sig .tc .vmem S2048x256 .bf16) (harg2 : arg2.IsWhole) (arg3 : Memref sig .tc .vmem S1024x256 .bf16) (harg3 : arg3.IsWhole)
  (arg4 : Memref sig .tc .vmem S1x1024x1 .f32) (harg4 : arg4.IsWhole) (arg5 : Memref sig .tc .vmem S1x1x2048 .i32) (harg5 : arg5.IsWhole) (arg6 : Memref sig .tc .vmem S1x1024x1 .i32) (harg6 : arg6.IsWhole)
  (arg7 : Memref sig .tc .vmem S1x1x2048 .i32) (harg7 : arg7.IsWhole) (arg8 : Memref sig .tc .vmem S1x1x2048 .i32) (harg8 : arg8.IsWhole)
  (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole)
  (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole)
  (x0 : Vec F S2048x256 .bf16) (x1 : Vec F S1024x256 .bf16) (x2 : Vec F S1x1024x1 .f32) (x3 : Vec F S1x1x2048 .i32) (x4 : Vec F S1x1024x1 .i32)
  (st : MineSt F) (E : Set ℕ)

/-- The inputs' staging buffers at their blocks. -/
def mineIn : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

end Run

end Cert.KernelIdeal.Hand

end
-- ==== Proof.KI.MineFirst.lean ====
module

public import proofs.«01_k».proof.Proof.KI.MineStep

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Run

variable (c : Dev nD) (i : grid1.Coords) (arg2 : Memref sig .tc .vmem S2048x256 .bf16) (harg2 : arg2.IsWhole) (arg3 : Memref sig .tc .vmem S1024x256 .bf16) (harg3 : arg3.IsWhole)
  (arg4 : Memref sig .tc .vmem S1x1024x1 .f32) (harg4 : arg4.IsWhole) (arg5 : Memref sig .tc .vmem S1x1x2048 .i32) (harg5 : arg5.IsWhole) (arg6 : Memref sig .tc .vmem S1x1024x1 .i32) (harg6 : arg6.IsWhole)
  (arg7 : Memref sig .tc .vmem S1x1x2048 .i32) (harg7 : arg7.IsWhole) (arg8 : Memref sig .tc .vmem S1x1x2048 .i32) (harg8 : arg8.IsWhole)
  (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole)
  (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole)
  (x0 : Vec F S2048x256 .bf16) (x1 : Vec F S1024x256 .bf16) (x2 : Vec F S1x1024x1 .f32) (x3 : Vec F S1x1x2048 .i32) (x4 : Vec F S1x1024x1 .i32)
  (st : MineSt F) (E : Set ℕ)

set_option maxHeartbeats 3200000 in
/-- The first column block of a row block. -/
theorem mine_run_first (hc0 : mineFirst i) (hc1 : ¬ mineLast i) (K : PUnit → sProp 𝕄) :
    iprop(mineIn c arg2 arg3 arg4 arg5 arg6 x0 x1 x2 x3 x4 ∗ heldSt c arg9 arg10 arg11 arg12 arg13 arg14 st
        ∗ (iprop(mineIn c arg2 arg3 arg4 arg5 arg6 x0 x1 x2 x3 x4 ∗ heldSt c arg9 arg10 arg11 arg12 arg13 arg14 (mineStep x0 x1 x2 x3 x4 mineInit)) -∗ K ⟨⟩))
      ⊢ wp frame (wpE (defs₀ (F := F)) Variants.none c none) E (cc1_hard_mine i arg2 harg2 arg3 harg3 arg4 harg4 arg5 harg5 arg6 harg6 arg7 harg7 arg8 harg8 arg9 harg9 arg10 harg10 arg11 harg11 arg12 harg12 arg13 harg13 arg14 harg14) K := by
  simp only [cc1_hard_mine_eq_skeleton]; unfold cc1_hard_mine_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold mineIn heldSt owns
  iintro ⟨⟨⟨%f0, %hf0, H0⟩, ⟨%f1, %hf1, H1⟩, ⟨%f2, %hf2, H2⟩, ⟨%f3, %hf3, H3⟩, ⟨%f4, %hf4, H4⟩⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  subst hf0 hf1 hf2 hf3 hf4
  obtain ⟨mx, mn, cj, ck, tp, tn⟩ := st
  subst hfs0 hfs1 hfs2 hfs3 hfs4 hfs5
  sl_exec (disch := first | sl_exact hc0 | sl_exact hc1)
  sl_step
  iapply Hk
  isplitl [H0 H1 H2 H3 H4]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    iexists _; isplitr; · ipureintro; rfl
    iexact H4
  rw [← mineStep_cov _ _ _ _ _ arg9 arg10 arg11 arg12 arg13 arg14]
  isplitl [HS0]
  · iexists _; isplitr
    swap; · iexact HS0
    ipureintro
    exact (View.read_writes_full _ _ _ _ _).trans rfl
  isplitl [HS1]
  · iexists _; isplitr
    swap; · iexact HS1
    ipureintro
    exact (View.read_writes_full _ _ _ _ _).trans rfl
  isplitl [HS2]
  · iexists _; isplitr
    swap; · iexact HS2
    ipureintro
    exact (View.read_writes_full _ _ _ _ _).trans rfl
  isplitl [HS3]
  · iexists _; isplitr
    swap; · iexact HS3
    ipureintro
    exact (View.read_writes_full _ _ _ _ _).trans rfl
  isplitl [HS4]
  · iexists _; isplitr
    swap; · iexact HS4
    ipureintro
    exact (View.read_writes_full _ _ _ _ _).trans rfl
  iexists _; isplitr
  swap; · iexact HS5
  ipureintro
  exact (View.read_writes_full _ _ _ _ _).trans rfl

end Run

end Cert.KernelIdeal.Hand

end
-- ==== Proof.KI.MineMid.lean ====
module

public import proofs.«01_k».proof.Proof.KI.MineStep

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Run

variable (c : Dev nD) (i : grid1.Coords) (arg2 : Memref sig .tc .vmem S2048x256 .bf16) (harg2 : arg2.IsWhole) (arg3 : Memref sig .tc .vmem S1024x256 .bf16) (harg3 : arg3.IsWhole)
  (arg4 : Memref sig .tc .vmem S1x1024x1 .f32) (harg4 : arg4.IsWhole) (arg5 : Memref sig .tc .vmem S1x1x2048 .i32) (harg5 : arg5.IsWhole) (arg6 : Memref sig .tc .vmem S1x1024x1 .i32) (harg6 : arg6.IsWhole)
  (arg7 : Memref sig .tc .vmem S1x1x2048 .i32) (harg7 : arg7.IsWhole) (arg8 : Memref sig .tc .vmem S1x1x2048 .i32) (harg8 : arg8.IsWhole)
  (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole)
  (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole)
  (x0 : Vec F S2048x256 .bf16) (x1 : Vec F S1024x256 .bf16) (x2 : Vec F S1x1024x1 .f32) (x3 : Vec F S1x1x2048 .i32) (x4 : Vec F S1x1024x1 .i32)
  (st : MineSt F) (E : Set ℕ)

set_option maxHeartbeats 3200000 in
/-- A column block that is neither the first nor the last of its row block. -/
theorem mine_run_mid (hc0 : ¬ mineFirst i) (hc1 : ¬ mineLast i) (K : PUnit → sProp 𝕄) :
    iprop(mineIn c arg2 arg3 arg4 arg5 arg6 x0 x1 x2 x3 x4 ∗ heldSt c arg9 arg10 arg11 arg12 arg13 arg14 st
        ∗ (iprop(mineIn c arg2 arg3 arg4 arg5 arg6 x0 x1 x2 x3 x4 ∗ heldSt c arg9 arg10 arg11 arg12 arg13 arg14 (mineStep x0 x1 x2 x3 x4 st)) -∗ K ⟨⟩))
      ⊢ wp frame (wpE (defs₀ (F := F)) Variants.none c none) E (cc1_hard_mine i arg2 harg2 arg3 harg3 arg4 harg4 arg5 harg5 arg6 harg6 arg7 harg7 arg8 harg8 arg9 harg9 arg10 harg10 arg11 harg11 arg12 harg12 arg13 harg13 arg14 harg14) K := by
  simp only [cc1_hard_mine_eq_skeleton]; unfold cc1_hard_mine_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold mineIn heldSt owns
  iintro ⟨⟨⟨%f0, %hf0, H0⟩, ⟨%f1, %hf1, H1⟩, ⟨%f2, %hf2, H2⟩, ⟨%f3, %hf3, H3⟩, ⟨%f4, %hf4, H4⟩⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, Hk⟩
  subst hf0 hf1 hf2 hf3 hf4
  obtain ⟨mx, mn, cj, ck, tp, tn⟩ := st
  subst hfs0 hfs1 hfs2 hfs3 hfs4 hfs5
  sl_exec (disch := first | sl_exact hc0 | sl_exact hc1)
  sl_step
  iapply Hk
  isplitl [H0 H1 H2 H3 H4]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    iexists _; isplitr; · ipureintro; rfl
    iexact H4
  rw [← mineStep_loaded]
  isplitl [HS0]
  · iexists _; isplitr
    swap; · iexact HS0
    ipureintro
    exact (View.read_writes_full _ _ _ _ _).trans rfl
  isplitl [HS1]
  · iexists _; isplitr
    swap; · iexact HS1
    ipureintro
    exact (View.read_writes_full _ _ _ _ _).trans rfl
  isplitl [HS2]
  · iexists _; isplitr
    swap; · iexact HS2
    ipureintro
    exact (View.read_writes_full _ _ _ _ _).trans rfl
  isplitl [HS3]
  · iexists _; isplitr
    swap; · iexact HS3
    ipureintro
    exact (View.read_writes_full _ _ _ _ _).trans rfl
  isplitl [HS4]
  · iexists _; isplitr
    swap; · iexact HS4
    ipureintro
    exact (View.read_writes_full _ _ _ _ _).trans rfl
  iexists _; isplitr
  swap; · iexact HS5
  ipureintro
  exact (View.read_writes_full _ _ _ _ _).trans rfl

end Run

end Cert.KernelIdeal.Hand

end
-- ==== Proof.KI.MineLast.lean ====
module

public import proofs.«01_k».proof.Proof.KI.MineStep

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Run

variable (c : Dev nD) (i : grid1.Coords) (arg2 : Memref sig .tc .vmem S2048x256 .bf16) (harg2 : arg2.IsWhole) (arg3 : Memref sig .tc .vmem S1024x256 .bf16) (harg3 : arg3.IsWhole)
  (arg4 : Memref sig .tc .vmem S1x1024x1 .f32) (harg4 : arg4.IsWhole) (arg5 : Memref sig .tc .vmem S1x1x2048 .i32) (harg5 : arg5.IsWhole) (arg6 : Memref sig .tc .vmem S1x1024x1 .i32) (harg6 : arg6.IsWhole)
  (arg7 : Memref sig .tc .vmem S1x1x2048 .i32) (harg7 : arg7.IsWhole) (arg8 : Memref sig .tc .vmem S1x1x2048 .i32) (harg8 : arg8.IsWhole)
  (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole)
  (arg12 : Memref sig .tc .vmem S1x2048 .f32) (harg12 : arg12.IsWhole) (arg13 : Memref sig .tc .vmem S1x2048 .f32) (harg13 : arg13.IsWhole) (arg14 : Memref sig .tc .vmem S1x2048 .f32) (harg14 : arg14.IsWhole)
  (x0 : Vec F S2048x256 .bf16) (x1 : Vec F S1024x256 .bf16) (x2 : Vec F S1x1024x1 .f32) (x3 : Vec F S1x1x2048 .i32) (x4 : Vec F S1x1024x1 .i32)
  (st : MineSt F) (E : Set ℕ)

set_option maxHeartbeats 3200000 in
/-- The last column block of a row block, which also writes the indices out. -/
theorem mine_run_last (hc0 : ¬ mineFirst i) (hc1 : mineLast i) (K : PUnit → sProp 𝕄) :
    iprop(mineIn c arg2 arg3 arg4 arg5 arg6 x0 x1 x2 x3 x4 ∗ heldSt c arg9 arg10 arg11 arg12 arg13 arg14 st
        ∗ (∃ d, owns (c : Thread nD τ) arg7 fullShare d) ∗ (∃ d, owns (c : Thread nD τ) arg8 fullShare d)
        ∗ (iprop(mineIn c arg2 arg3 arg4 arg5 arg6 x0 x1 x2 x3 x4 ∗ heldSt c arg9 arg10 arg11 arg12 arg13 arg14 (mineStep x0 x1 x2 x3 x4 st)
            ∗ owns (c : Thread nD τ) arg7 fullShare (k1_pay1 (mineStep x0 x1 x2 x3 x4 st).cj) ∗ owns (c : Thread nD τ) arg8 fullShare (k1_pay2 (mineStep x0 x1 x2 x3 x4 st).ck)) -∗ K ⟨⟩))
      ⊢ wp frame (wpE (defs₀ (F := F)) Variants.none c none) E (cc1_hard_mine i arg2 harg2 arg3 harg3 arg4 harg4 arg5 harg5 arg6 harg6 arg7 harg7 arg8 harg8 arg9 harg9 arg10 harg10 arg11 harg11 arg12 harg12 arg13 harg13 arg14 harg14) K := by
  simp only [cc1_hard_mine_eq_skeleton]; unfold cc1_hard_mine_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold mineIn heldSt owns
  iintro ⟨⟨⟨%f0, %hf0, H0⟩, ⟨%f1, %hf1, H1⟩, ⟨%f2, %hf2, H2⟩, ⟨%f3, %hf3, H3⟩, ⟨%f4, %hf4, H4⟩⟩, ⟨⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩⟩, ⟨%d7, %f7, -, H7⟩, ⟨%d8, %f8, -, H8⟩, Hk⟩
  subst hf0 hf1 hf2 hf3 hf4
  obtain ⟨mx, mn, cj, ck, tp, tn⟩ := st
  subst hfs0 hfs1 hfs2 hfs3 hfs4 hfs5
  sl_exec (disch := first | sl_exact hc0 | sl_exact hc1)
  sl_step
  iapply Hk
  isplitl [H0 H1 H2 H3 H4]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    iexists _; isplitr; · ipureintro; rfl
    iexact H4
  rw [← mineStep_loaded]
  isplitl [HS0 HS1 HS2 HS3 HS4 HS5]
  · isplitl [HS0]
    · iexists _; isplitr
      swap; · iexact HS0
      ipureintro
      exact (View.read_writes_full _ _ _ _ _).trans rfl
    isplitl [HS1]
    · iexists _; isplitr
      swap; · iexact HS1
      ipureintro
      exact (View.read_writes_full _ _ _ _ _).trans rfl
    isplitl [HS2]
    · iexists _; isplitr
      swap; · iexact HS2
      ipureintro
      exact (View.read_writes_full _ _ _ _ _).trans rfl
    isplitl [HS3]
    · iexists _; isplitr
      swap; · iexact HS3
      ipureintro
      exact (View.read_writes_full _ _ _ _ _).trans rfl
    isplitl [HS4]
    · iexists _; isplitr
      swap; · iexact HS4
      ipureintro
      exact (View.read_writes_full _ _ _ _ _).trans rfl
    iexists _; isplitr
    swap; · iexact HS5
    ipureintro
    exact (View.read_writes_full _ _ _ _ _).trans rfl
  isplitl [H7]
  · iexists _; isplitr
    swap; · iexact H7
    ipureintro
    exact (View.read_writes_full _ _ _ _ _).trans (congrArg k1_pay1 (covS_eq arg11 _))
  iexists _; isplitr
  swap; · iexact H8
  ipureintro
  exact (View.read_writes_full _ _ _ _ _).trans (congrArg k1_pay2 (covS_eq arg12 _))

end Run

end Cert.KernelIdeal.Hand

end
-- ==== Proof.KI.Dat1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.KI.MineFirst
public import proofs.«01_k».proof.Proof.KI.MineMid
public import proofs.«01_k».proof.Proof.KI.MineLast

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- What the scratch carries after the body at position `n`. -/
def mineAt (c : Dev nD) : (n : ℕ) → n < cfg1.N → MineSt F
  | 0, hn => mineStep (iblk1 V c 0 ⟨0, hn⟩) (iblk1 V c 1 ⟨0, hn⟩) (iblk1 V c 2 ⟨0, hn⟩) (iblk1 V c 3 ⟨0, hn⟩) (iblk1 V c 4 ⟨0, hn⟩) mineInit
  | n + 1, hn => mineStep (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (if (n + 1) % 8 = 0 then mineInit else mineAt c n (Nat.lt_of_succ_lt hn))

theorem mineAt_first (c : Dev nD) (t : Fin cfg1.N) (h : t.val % 8 = 0) : mineAt V c t.val t.isLt = mineStep (iblk1 V c 0 t) (iblk1 V c 1 t) (iblk1 V c 2 t) (iblk1 V c 3 t) (iblk1 V c 4 t) mineInit := by
  obtain ⟨n, hn⟩ := t
  cases n with
  | zero => rfl
  | succ n => show mineStep (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (if (n + 1) % 8 = 0 then mineInit else mineAt V c n _) = _; rw [if_pos h]
theorem mineAt_next (c : Dev nD) (t : Fin cfg1.N) (h : t.val % 8 ≠ 0) :
    mineAt V c t.val t.isLt = mineStep (iblk1 V c 0 t) (iblk1 V c 1 t) (iblk1 V c 2 t) (iblk1 V c 3 t) (iblk1 V c 4 t) (mineAt V c (t.val - 1) (Nat.lt_of_le_of_lt (Nat.sub_le _ _) t.isLt)) := by
  obtain ⟨n, hn⟩ := t
  cases n with
  | zero => exact absurd rfl h
  | succ n => show mineStep (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (if (n + 1) % 8 = 0 then mineInit else mineAt V c n _) = _; rw [if_neg h]; rfl

/-- The scoped rest without the carried scratch, and the generator register. -/
def others1 (c : Dev nD) : sProp 𝕄 :=
  iprop(Pipeline.scopedRestBut (Ix := Unit) (Name := ℕ) (U := UR sig nD τ) (Lvl := ℕ) (Val := Elt F) spec1 c [cc1_scratch0, cc1_scratch1, cc1_scratch2, cc1_scratch3, cc1_scratch4, cc1_scratch5] ∗ ∃ r, prngReg c r)

/-- The carried scratch at a state. -/
def scr1 (c : Dev nD) (st : MineSt F) : sProp 𝕄 :=
  heldSt c (Memref.whole cc1_scratch0) (Memref.whole cc1_scratch1) (Memref.whole cc1_scratch2) (Memref.whole cc1_scratch3) (Memref.whole cc1_scratch4) (Memref.whole cc1_scratch5) st

theorem PhiA1_eq (c : Dev nD) : (Pipeline.ΦA spec1 c : sProp 𝕄)
    = iprop(iprop(iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ d, owns (c : Thread nD τ) (Memref.whole cc1_scratch4) fullShare d) ∗ (∃ d, owns (c : Thread nD τ) (Memref.whole cc1_scratch5) fullShare d))
        ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5]) ∗ ∃ r, prngReg c r) := by
  unfold Pipeline.ΦA
  rw [Pipeline.scopedRest_split_of_list spec1 c [cc1_scratch0, cc1_scratch1, cc1_scratch2, cc1_scratch3, cc1_scratch4, cc1_scratch5] (by decide) (by decide)]
  simp only [owns_whole]
  rfl

theorem PhiA1_open (c : Dev nD) : (Pipeline.ΦA spec1 c : sProp 𝕄) ⊢ iprop(∃ st, scr1 c st ∗ others1 (F := F) c) := by
  rw [PhiA1_eq]
  unfold scr1 others1 heldSt
  iintro ⟨⟨⟨⟨%d0, H0⟩, ⟨%d1, H1⟩, ⟨%d2, H2⟩, ⟨%d3, H3⟩, ⟨%d4, H4⟩, ⟨%d5, H5⟩⟩, Hr⟩, Hp⟩
  iexists (⟨d0, d1, d2, d3, d4, d5⟩ : MineSt F)
  isplitr [Hr Hp]
  · isplitl [H0]; · iexact H0
    isplitl [H1]; · iexact H1
    isplitl [H2]; · iexact H2
    isplitl [H3]; · iexact H3
    isplitl [H4]; · iexact H4
    iexact H5
  isplitl [Hr]; · iexact Hr
  iexact Hp

theorem PhiA1_close (c : Dev nD) (st : MineSt F) : iprop(scr1 c st ∗ others1 (F := F) c) ⊢ (Pipeline.ΦA spec1 c : sProp 𝕄) := by
  rw [PhiA1_eq]
  unfold scr1 others1 heldSt
  iintro ⟨⟨H0, H1, H2, H3, H4, H5⟩, ⟨Hr, Hp⟩⟩
  isplitr [Hp]
  · isplitr [Hr]
    · isplitl [H0]; · iexists _; iexact H0
      isplitl [H1]; · iexists _; iexact H1
      isplitl [H2]; · iexists _; iexact H2
      isplitl [H3]; · iexists _; iexact H3
      isplitl [H4]; · iexists _; iexact H4
      iexists _; iexact H5
    iexact Hr
  iexact Hp

/-- The invariant after `n` points. -/
def PhiS1 (c : Dev nD) : (n : ℕ) → n ≤ cfg1.N → sProp 𝕄
  | 0, _ => Pipeline.ΦA spec1 c
  | n + 1, hn => iprop(scr1 c (mineAt V c n hn) ∗ others1 (F := F) c)
theorem PhiS1_any (c : Dev nD) (n : ℕ) (hn : n ≤ cfg1.N) : PhiS1 V c n hn ⊢ iprop(∃ st, scr1 c st ∗ others1 (F := F) c) := by
  cases n with
  | zero => exact PhiA1_open c
  | succ n =>
    show iprop(scr1 c (mineAt V c n hn) ∗ others1 (F := F) c) ⊢ _
    iintro H; iexists _; iexact H
theorem PhiS1_close (c : Dev nD) (n : ℕ) (hn : n ≤ cfg1.N) : PhiS1 V c n hn ⊢ (Pipeline.ΦA spec1 c : sProp 𝕄) := by
  cases n with
  | zero => exact .rfl
  | succ n => exact PhiA1_close c _
theorem PhiS1_pos (c : Dev nD) (n : ℕ) (hn : n ≤ cfg1.N) (hz : n ≠ 0) :
    PhiS1 V c n hn = iprop(scr1 c (mineAt V c (n - 1) (Nat.lt_of_lt_of_le (Nat.sub_lt (Nat.pos_of_ne_zero hz) one_pos) hn)) ∗ others1 (F := F) c) := by
  cases n with
  | zero => exact absurd rfl hz
  | succ n => rfl

/-- The proof data of the pipeline. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (mineAt V c t.val t.isLt).cj
    | ⟨6, _⟩ => k1_pay2 (mineAt V c t.val t.isLt).ck
  Φ t := PhiS1 V c t.val (Nat.le_of_lt_succ t.isLt)
  q w := Pipeline.shareOf spec1 w
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay1 (mineAt V c t.val t.isLt).cj := by dsimp only [dat1]
theorem after1_6 (c : Dev nD) (t : Fin cfg1.N) : (dat1 V c).after 6 t = k1_pay2 (mineAt V c t.val t.isLt).ck := by dsimp only [dat1]
theorem before1_0 (c : Dev nD) (t : Fin cfg1.N) (d) : (dat1 V c).before 0 t d = iblk1 V c 0 t :=
  before1_0_of V (dat1 V c) (A_eq1 V c 0) (after1_0 V c) t d
theorem leaves1_0 (c : Dev nD) (t : Fin cfg1.N) : (dat1 V c).leavesExact 0 t = owns (c : Thread nD τ) (st1_0 t) fullShare (iblk1 V c 0 t) := by
  unfold Dat.leavesExact; rw [show cfg1.idle 0 (cfg1.grid.coords t) = false from rfl, after1_0]
theorem before1_1 (c : Dev nD) (t : Fin cfg1.N) (d) : (dat1 V c).before 1 t d = iblk1 V c 1 t :=
  before1_1_of V (dat1 V c) (A_eq1 V c 1) (after1_1 V c) t d
theorem leaves1_1 (c : Dev nD) (t : Fin cfg1.N) : (dat1 V c).leavesExact 1 t = owns (c : Thread nD τ) (st1_1 t) fullShare (iblk1 V c 1 t) := by
  unfold Dat.leavesExact; rw [show cfg1.idle 1 (cfg1.grid.coords t) = false from rfl, after1_1]
theorem before1_2 (c : Dev nD) (t : Fin cfg1.N) (d) : (dat1 V c).before 2 t d = iblk1 V c 2 t :=
  before1_2_of V (dat1 V c) (A_eq1 V c 2) (after1_2 V c) t d
theorem leaves1_2 (c : Dev nD) (t : Fin cfg1.N) : (dat1 V c).leavesExact 2 t = owns (c : Thread nD τ) (st1_2 t) fullShare (iblk1 V c 2 t) := by
  unfold Dat.leavesExact; rw [show cfg1.idle 2 (cfg1.grid.coords t) = false from rfl, after1_2]
theorem before1_3 (c : Dev nD) (t : Fin cfg1.N) (d) : (dat1 V c).before 3 t d = iblk1 V c 3 t :=
  before1_3_of V (dat1 V c) (A_eq1 V c 3) (after1_3 V c) t d
theorem leaves1_3 (c : Dev nD) (t : Fin cfg1.N) : (dat1 V c).leavesExact 3 t = owns (c : Thread nD τ) (st1_3 t) fullShare (iblk1 V c 3 t) := by
  unfold Dat.leavesExact; rw [show cfg1.idle 3 (cfg1.grid.coords t) = false from rfl, after1_3]
theorem before1_4 (c : Dev nD) (t : Fin cfg1.N) (d) : (dat1 V c).before 4 t d = iblk1 V c 4 t :=
  before1_4_of V (dat1 V c) (A_eq1 V c 4) (after1_4 V c) t d
theorem leaves1_4 (c : Dev nD) (t : Fin cfg1.N) : (dat1 V c).leavesExact 4 t = owns (c : Thread nD τ) (st1_4 t) fullShare (iblk1 V c 4 t) := by
  unfold Dat.leavesExact; rw [show cfg1.idle 4 (cfg1.grid.coords t) = false from rfl, after1_4]
theorem leaves1_5_idle (c : Dev nD) (t : Fin cfg1.N) (h : t.val % 8 ≠ 7) :
    (dat1 V c).leavesExact 5 t = iprop(∃ d, owns (c : Thread nD τ) (st1_5 t) fullShare ((dat1 V c).before 5 t d)) :=
  Dat.leavesExact_idle _ 5 t (by
    show (!(k1_cond2 (grid1.coords t) == 1#1)) = true
    rw [Bool.not_eq_true', beq_eq_false_iff_ne]; exact fun hh => h ((mineLast_iff t).1 hh)) (by
    rw [Bool.eq_false_iff]; exact fun hh => h ((flush1_5 t).1 hh))
theorem leaves1_5_last (c : Dev nD) (t : Fin cfg1.N) (h : t.val % 8 = 7) :
    (dat1 V c).leavesExact 5 t = owns (c : Thread nD τ) (st1_5 t) fullShare (k1_pay1 (mineAt V c t.val t.isLt).cj) := by
  unfold Dat.leavesExact
  rw [show cfg1.idle 5 (cfg1.grid.coords t) = false from by
    show (!(k1_cond2 (grid1.coords t) == 1#1)) = false
    rw [Bool.not_eq_false', beq_iff_eq]; exact (mineLast_iff t).2 h, after1_5]
theorem leaves1_6_idle (c : Dev nD) (t : Fin cfg1.N) (h : t.val % 8 ≠ 7) :
    (dat1 V c).leavesExact 6 t = iprop(∃ d, owns (c : Thread nD τ) (st1_6 t) fullShare ((dat1 V c).before 6 t d)) :=
  Dat.leavesExact_idle _ 6 t (by
    show (!(k1_cond2 (grid1.coords t) == 1#1)) = true
    rw [Bool.not_eq_true', beq_eq_false_iff_ne]; exact fun hh => h ((mineLast_iff t).1 hh)) (by
    rw [Bool.eq_false_iff]; exact fun hh => h ((flush1_6 t).1 hh))
theorem leaves1_6_last (c : Dev nD) (t : Fin cfg1.N) (h : t.val % 8 = 7) :
    (dat1 V c).leavesExact 6 t = owns (c : Thread nD τ) (st1_6 t) fullShare (k1_pay2 (mineAt V c t.val t.isLt).ck) := by
  unfold Dat.leavesExact
  rw [show cfg1.idle 6 (cfg1.grid.coords t) = false from by
    show (!(k1_cond2 (grid1.coords t) == 1#1)) = false
    rw [Bool.not_eq_false', beq_iff_eq]; exact (mineLast_iff t).2 h, after1_6]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 32 := Nat.lt_of_lt_of_eq t.isLt N_1
  unfold bodyPre1 bodyPost1 bodyAt1
  simp only [before1_0, before1_1, before1_2, before1_3, before1_4]
  rw [show (dat1 V c).owesAt () t.succ = (dat1 V c).owesAt () t.castSucc from rfl,
    show (dat1 V c).Φ t.succ = iprop(scr1 c (mineAt V c t.val t.isLt) ∗ others1 (F := F) c) from rfl,
    leaves1_0, leaves1_1, leaves1_2, leaves1_3, leaves1_4]
  by_cases h0 : t.val % 8 = 0
  · skip
    have hf : mineFirst (grid1.coords t) := (mineFirst_iff t).2 h0
    have hl : ¬ mineLast (grid1.coords t) := fun hh => by have := (mineLast_iff t).1 hh; omega
    rw [leaves1_5_idle V c t (by omega), leaves1_6_idle V c t (by omega), mineAt_first V c t h0]
    rw [show (dat1 V c).Φ t.castSucc = PhiS1 V c t.val t.isLt.le from rfl]
    iintro ⟨HΦ, Ho, ⟨%d0, H0⟩, ⟨%d1, H1⟩, ⟨%d2, H2⟩, ⟨%d3, H3⟩, ⟨%d4, H4⟩, H5, H6⟩
    ihave HΦ := (PhiS1_any V c t.val t.isLt.le) $$ HΦ
    icases HΦ with ⟨%st, HS, HR⟩
    iapply (mine_run_first c (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) st Set.univ hf hl _)
    unfold scr1 mineIn
    isplitl [H0 H1 H2 H3 H4]
    · isplitl [H0]; · iexact H0
      isplitl [H1]; · iexact H1
      isplitl [H2]; · iexact H2
      isplitl [H3]; · iexact H3
      iexact H4
    isplitl [HS]; · iexact HS
    iintro ⟨⟨H0, H1, H2, H3, H4⟩, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases h1 : t.val % 8 = 7
  · skip
    have hf : ¬ mineFirst (grid1.coords t) := fun hh => h0 ((mineFirst_iff t).1 hh)
    have hl : mineLast (grid1.coords t) := (mineLast_iff t).2 h1
    rw [leaves1_5_last V c t h1, leaves1_6_last V c t h1, mineAt_next V c t h0]
    rw [show (dat1 V c).Φ t.castSucc = PhiS1 V c t.val t.isLt.le from rfl, PhiS1_pos V c t.val _ (by omega)]
    iintro ⟨⟨HS, HR⟩, Ho, ⟨%d0, H0⟩, ⟨%d1, H1⟩, ⟨%d2, H2⟩, ⟨%d3, H3⟩, ⟨%d4, H4⟩, H5, H6⟩
    iapply (mine_run_last c (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (mineAt V c (t.val - 1) _) Set.univ hf hl _)
    unfold scr1 mineIn
    isplitl [H0 H1 H2 H3 H4]
    · isplitl [H0]; · iexact H0
      isplitl [H1]; · iexact H1
      isplitl [H2]; · iexact H2
      isplitl [H3]; · iexact H3
      iexact H4
    isplitl [HS]; · iexact HS
    isplitl [H5]; · icases H5 with ⟨%d5, H5⟩; iexists _; iexact H5
    isplitl [H6]; · icases H6 with ⟨%d6, H6⟩; iexists _; iexact H6
    iintro ⟨⟨H0, H1, H2, H3, H4⟩, HS, H5, H6⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · skip
    have hf : ¬ mineFirst (grid1.coords t) := fun hh => h0 ((mineFirst_iff t).1 hh)
    have hl : ¬ mineLast (grid1.coords t) := fun hh => h1 ((mineLast_iff t).1 hh)
    rw [leaves1_5_idle V c t h1, leaves1_6_idle V c t h1, mineAt_next V c t h0]
    rw [show (dat1 V c).Φ t.castSucc = PhiS1 V c t.val t.isLt.le from rfl, PhiS1_pos V c t.val _ (by omega)]
    iintro ⟨⟨HS, HR⟩, Ho, ⟨%d0, H0⟩, ⟨%d1, H1⟩, ⟨%d2, H2⟩, ⟨%d3, H3⟩, ⟨%d4, H4⟩, H5, H6⟩
    iapply (mine_run_mid c (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (mineAt V c (t.val - 1) _) Set.univ hf hl _)
    unfold scr1 mineIn
    isplitl [H0 H1 H2 H3 H4]
    · isplitl [H0]; · iexact H0
      isplitl [H1]; · iexact H1
      isplitl [H2]; · iexact H2
      isplitl [H3]; · iexact H3
      iexact H4
    isplitl [HS]; · iexact HS
    iintro ⟨⟨H0, H1, H2, H3, H4⟩, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.KI.LossRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! The loss kernel: the two running sums over one block of rows. -/

/-- The two sums after one more block of rows: the ranking loss and the spread term. -/
def lossStep (x0 x1 x2 : Vec F S1024x256 .f32) (x3 : Vec F S1024x1 .f32) (st : Vec F S1x1 .f32 × Vec F S1x1 .f32) : Vec F S1x1 .f32 × Vec F S1x1 .f32 :=
  (k2_pay2 (k2_pay12 x0 x1 x3) (k2_pay13 x0 x2 x3) (Scalar.ofBits .f32 0x40000000#32) st.1,
    k2_pay3 (k2_pay9 x1) (k2_pay10 x2) (k2_pay11 x1 x2) (k2_pay13 x0 x2 x3) (Scalar.ofBits .f32 0x40000000#32) st.2)
def lossInit : Vec F S1x1 .f32 × Vec F S1x1 .f32 := (k2_pay4, k2_pay5)

def wholeX (x : Vec F S1024x256 .f32) : Vec F S1024x256 .f32 := fun y => x ((Rect.unit (s := S1024x256) ![0, 0] S1024x256.size inb_S1024x256_S1024x256_0_0).toLoadRect.idx y)
def wholeN (x : Vec F S1024x1 .f32) : Vec F S1024x1 .f32 := fun y => x ((Rect.unit (s := S1024x1) ![0, 0] S1024x1.size inb_S1024x1_S1024x1_0_0).toLoadRect.idx y)
def wholeU (x : Vec F S1x1 .f32) : Vec F S1x1 .f32 := fun y => x ((Rect.unit (s := S1x1) ![0, 0] S1x1.size inb_S1x1_S1x1_0_0).toLoadRect.idx y)
theorem wholeX_eq (x : Vec F S1024x256 .f32) : wholeX x = x := by
  funext y; refine congrArg x (funext fun a => Fin.ext ?_); fin_cases a <;> (show 0 + 1 * _ = _; omega)
theorem wholeN_eq (x : Vec F S1024x1 .f32) : wholeN x = x := by
  funext y; refine congrArg x (funext fun a => Fin.ext ?_); fin_cases a <;> (show 0 + 1 * _ = _; omega)
theorem wholeU_eq (x : Vec F S1x1 .f32) : wholeU x = x := by
  funext y; refine congrArg x (funext fun a => Fin.ext ?_); fin_cases a <;> (show 0 + 1 * _ = _; omega)
def covL (m : Memref sig .tc .vmem S1x1 .f32) (w : Vec F S1x1 .f32) : Vec F S1x1 .f32 :=
  m.view.readCov [⟨Rect.unit ![0, 0] S1x1.size inb_S1x1_S1x1_0_0, w⟩] (Rect.unit (s := S1x1) ![0, 0] S1x1.size inb_S1x1_S1x1_0_0).toLoadRect
theorem covL_eq (m : Memref sig .tc .vmem S1x1 .f32) (w : Vec F S1x1 .f32) : covL m w = w := View.readCov_full _ _ _ _ _
theorem lossStep_loaded (x0 x1 x2 : Vec F S1024x256 .f32) (x3 : Vec F S1024x1 .f32) (st : Vec F S1x1 .f32 × Vec F S1x1 .f32) :
    lossStep (wholeX x0) (wholeX x1) (wholeX x2) (wholeN x3) (wholeU st.1, wholeU st.2) = lossStep x0 x1 x2 x3 st := by
  simp only [wholeX_eq, wholeN_eq, wholeU_eq]
theorem lossStep_cov (x0 x1 x2 : Vec F S1024x256 .f32) (x3 : Vec F S1024x1 .f32) (m0 m1 : Memref sig .tc .vmem S1x1 .f32) :
    lossStep (wholeX x0) (wholeX x1) (wholeX x2) (wholeN x3) (covL m0 k2_pay4, covL m1 k2_pay5) = lossStep x0 x1 x2 x3 lossInit := by
  simp only [wholeX_eq, wholeN_eq, covL_eq]; rfl

abbrev lossFirst (i : grid2.Coords) : Prop := (Scalar.cmpi .ne (Scalar.extui (Scalar.cmpi .eq (BitVec.ofNat 32 (i 0).val) 0#32)) 0#32) = 1#1
abbrev lossLast (i : grid2.Coords) : Prop := k2_cond2 i = 1#1
theorem lossFirst_iff (t : Fin cfg2.N) : lossFirst (grid2.coords t) ↔ t.val % 8 = 0 := by
  have ht : t.val < 8 := Nat.lt_of_lt_of_eq t.isLt N_2
  have e1 : (grid2.coords t 0).val = t.val / 1 % 8 := Pipeline.Grid.coords_val t 0 (by decide) rfl
  simp only [lossFirst, e1]
  word_cmp
theorem lossLast_iff (t : Fin cfg2.N) : lossLast (grid2.coords t) ↔ t.val % 8 = 7 := by
  have ht : t.val < 8 := Nat.lt_of_lt_of_eq t.isLt N_2
  have e1 : (grid2.coords t 0).val = t.val / 1 % 8 := Pipeline.Grid.coords_val t 0 (by decide) rfl
  simp only [lossLast, k2_cond2, e1]
  word_cmp

section Run

variable (c : Dev nD) (i : grid2.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole)
  (x0 x1 x2 : Vec F S1024x256 .f32) (x3 : Vec F S1024x1 .f32) (st : Vec F S1x1 .f32 × Vec F S1x1 .f32) (E : Set ℕ)

/-- The inputs' blocks held. -/
def lossIn (arg1 arg2 arg3 : Memref sig .tc .vmem S1024x256 .f32) (arg4 : Memref sig .tc .vmem S1024x1 .f32) (x0 x1 x2 : Vec F S1024x256 .f32) (x3 : Vec F S1024x1 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3)

/-- The first block, which starts the sums. -/
theorem loss_run_first (hc0 : lossFirst i) (hc1 : ¬ lossLast i) (K : PUnit → sProp 𝕄) :
    iprop(lossIn c arg1 arg2 arg3 arg4 x0 x1 x2 x3 ∗ iprop((∃ d, owns (c : Thread nD τ) arg7 fullShare d) ∗ (∃ d, owns (c : Thread nD τ) arg8 fullShare d))
        ∗ (iprop(lossIn c arg1 arg2 arg3 arg4 x0 x1 x2 x3 ∗ iprop(owns (c : Thread nD τ) arg7 fullShare (lossStep x0 x1 x2 x3 lossInit).1 ∗ owns (c : Thread nD τ) arg8 fullShare (lossStep x0 x1 x2 x3 lossInit).2)) -∗ K ⟨⟩))
      ⊢ wp frame (wpE (defs₀ (F := F)) Variants.none c none) E (cc2_mined_loss i arg1 harg1 arg2 harg2 arg3 harg3 arg4 harg4 arg5 harg5 arg6 harg6 arg7 harg7 arg8 harg8) K := by
  simp only [cc2_mined_loss_eq_skeleton]; unfold cc2_mined_loss_skel
  simp only [k2_part1_eq_skeleton]
  unfold lossIn owns
  iintro ⟨⟨⟨%f0, %hf0, H0⟩, ⟨%f1, %hf1, H1⟩, ⟨%f2, %hf2, H2⟩, ⟨%f3, %hf3, H3⟩⟩, ⟨⟨%e0, %fs0, -, HS0⟩, ⟨%e1, %fs1, -, HS1⟩⟩, Hk⟩
  subst hf0 hf1 hf2 hf3
  sl_exec (disch := first | sl_exact hc0 | sl_exact hc1)
  sl_step
  iapply Hk
  isplitl [H0 H1 H2 H3]
  · isplitl [H0]
    · iexists _; isplitr; · ipureintro; rfl
      iexact H0
    isplitl [H1]
    · iexists _; isplitr; · ipureintro; rfl
      iexact H1
    isplitl [H2]
    · iexists _; isplitr; · ipureintro; rfl
      iexact H2
    iexists _; isplitr; · ipureintro; rfl
    iexact H3
  rw [← lossStep_cov _ _ _ _ arg7 arg8]
  isplitl [HS0]
  · iexists _; isplitr
    swap; · iexact HS0
    ipureintro
    exact (View.read_writes_full _ _ _ _ _).trans rfl
  iexists _; isplitr
  swap; · iexact HS1
  ipureintro
  exact (View.read_writes_full _ _ _ _ _).trans rfl

/-- A block between. -/
theorem loss_run_mid (hc0 : ¬ lossFirst i) (hc1 : ¬ lossLast i) (K : PUnit → sProp 𝕄) :
    iprop(lossIn c arg1 arg2 arg3 arg4 x0 x1 x2 x3 ∗ iprop(owns (c : Thread nD τ) arg7 fullShare st.1 ∗ owns (c : Thread nD τ) arg8 fullShare st.2)
        ∗ (iprop(lossIn c arg1 arg2 arg3 arg4 x0 x1 x2 x3 ∗ iprop(owns (c : Thread nD τ) arg7 fullShare (lossStep x0 x1 x2 x3 st).1 ∗ owns (c : Thread nD τ) arg8 fullShare (lossStep x0 x1 x2 x3 st).2)) -∗ K ⟨⟩))
      ⊢ wp frame (wpE (defs₀ (F := F)) Variants.none c none) E (cc2_mined_loss i arg1 harg1 arg2 harg2 arg3 harg3 arg4 harg4 arg5 harg5 arg6 harg6 arg7 harg7 arg8 harg8) K := by
  simp only [cc2_mined_loss_eq_skeleton]; unfold cc2_mined_loss_skel
  simp only [k2_part1_eq_skeleton]
  unfold lossIn owns
  iintro ⟨⟨⟨%f0, %hf0, H0⟩, ⟨%f1, %hf1, H1⟩, ⟨%f2, %hf2, H2⟩, ⟨%f3, %hf3, H3⟩⟩, ⟨⟨%fs0, %hfs0, HS0⟩, ⟨%fs1, %hfs1, HS1⟩⟩, Hk⟩
  subst hf0 hf1 hf2 hf3
  obtain ⟨s0, s1⟩ := st
  subst hfs0 hfs1
  sl_exec (disch := first | sl_exact hc0 | sl_exact hc1)
  sl_step
  iapply Hk
  isplitl [H0 H1 H2 H3]
  · isplitl [H0]
    · iexists _; isplitr; · ipureintro; rfl
      iexact H0
    isplitl [H1]
    · iexists _; isplitr; · ipureintro; rfl
      iexact H1
    isplitl [H2]
    · iexists _; isplitr; · ipureintro; rfl
      iexact H2
    iexists _; isplitr; · ipureintro; rfl
    iexact H3
  rw [← lossStep_loaded]
  isplitl [HS0]
  · iexists _; isplitr
    swap; · iexact HS0
    ipureintro
    exact (View.read_writes_full _ _ _ _ _).trans rfl
  iexists _; isplitr
  swap; · iexact HS1
  ipureintro
  exact (View.read_writes_full _ _ _ _ _).trans rfl

/-- The last block, which also writes the sums out. -/
theorem loss_run_last (hc0 : ¬ lossFirst i) (hc1 : lossLast i) (K : PUnit → sProp 𝕄) :
    iprop(lossIn c arg1 arg2 arg3 arg4 x0 x1 x2 x3 ∗ iprop(owns (c : Thread nD τ) arg7 fullShare st.1 ∗ owns (c : Thread nD τ) arg8 fullShare st.2) ∗ (∃ d, owns (c : Thread nD τ) arg5 fullShare d) ∗ (∃ d, owns (c : Thread nD τ) arg6 fullShare d)
        ∗ (iprop(lossIn c arg1 arg2 arg3 arg4 x0 x1 x2 x3 ∗ iprop(owns (c : Thread nD τ) arg7 fullShare (lossStep x0 x1 x2 x3 st).1 ∗ owns (c : Thread nD τ) arg8 fullShare (lossStep x0 x1 x2 x3 st).2) ∗ owns (c : Thread nD τ) arg5 fullShare (lossStep x0 x1 x2 x3 st).1 ∗ owns (c : Thread nD τ) arg6 fullShare (lossStep x0 x1 x2 x3 st).2) -∗ K ⟨⟩))
      ⊢ wp frame (wpE (defs₀ (F := F)) Variants.none c none) E (cc2_mined_loss i arg1 harg1 arg2 harg2 arg3 harg3 arg4 harg4 arg5 harg5 arg6 harg6 arg7 harg7 arg8 harg8) K := by
  simp only [cc2_mined_loss_eq_skeleton]; unfold cc2_mined_loss_skel
  simp only [k2_part1_eq_skeleton]
  unfold lossIn owns
  iintro ⟨⟨⟨%f0, %hf0, H0⟩, ⟨%f1, %hf1, H1⟩, ⟨%f2, %hf2, H2⟩, ⟨%f3, %hf3, H3⟩⟩, ⟨⟨%fs0, %hfs0, HS0⟩, ⟨%fs1, %hfs1, HS1⟩⟩, ⟨%d4, %f4, -, H4⟩, ⟨%d5, %f5, -, H5⟩, Hk⟩
  subst hf0 hf1 hf2 hf3
  obtain ⟨s0, s1⟩ := st
  subst hfs0 hfs1
  sl_exec (disch := first | sl_exact hc0 | sl_exact hc1)
  sl_step
  iapply Hk
  isplitl [H0 H1 H2 H3]
  · isplitl [H0]
    · iexists _; isplitr; · ipureintro; rfl
      iexact H0
    isplitl [H1]
    · iexists _; isplitr; · ipureintro; rfl
      iexact H1
    isplitl [H2]
    · iexists _; isplitr; · ipureintro; rfl
      iexact H2
    iexists _; isplitr; · ipureintro; rfl
    iexact H3
  rw [← lossStep_loaded]
  isplitl [HS0 HS1]
  · isplitl [HS0]
    · iexists _; isplitr
      swap; · iexact HS0
      ipureintro
      exact (View.read_writes_full _ _ _ _ _).trans rfl
    iexists _; isplitr
    swap; · iexact HS1
    ipureintro
    exact (View.read_writes_full _ _ _ _ _).trans rfl
  isplitl [H4]
  · iexists _; isplitr
    swap; · iexact H4
    ipureintro
    exact (View.read_writes_full _ _ _ _ _).trans ((covL_eq arg7 _).trans rfl)
  iexists _; isplitr
  swap; · iexact H5
  ipureintro
  exact (View.read_writes_full _ _ _ _ _).trans ((covL_eq arg8 _).trans rfl)

end Run

end Cert.KernelIdeal.Hand

end
-- ==== Proof.KI.Dat2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.KI.LossRun

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What the scratch carries after the body at position `n`. -/
def lossAt (c : Dev nD) : (n : ℕ) → n < cfg2.N → Vec F S1x1 .f32 × Vec F S1x1 .f32
  | 0, hn => lossStep (iblk2 V c 0 ⟨0, hn⟩) (iblk2 V c 1 ⟨0, hn⟩) (iblk2 V c 2 ⟨0, hn⟩) (iblk2 V c 3 ⟨0, hn⟩) lossInit
  | n + 1, hn => lossStep (iblk2 V c 0 ⟨n + 1, hn⟩) (iblk2 V c 1 ⟨n + 1, hn⟩) (iblk2 V c 2 ⟨n + 1, hn⟩) (iblk2 V c 3 ⟨n + 1, hn⟩) (if (n + 1) % 8 = 0 then lossInit else lossAt c n (Nat.lt_of_succ_lt hn))

theorem lossAt_first (c : Dev nD) (t : Fin cfg2.N) (h : t.val % 8 = 0) : lossAt V c t.val t.isLt = lossStep (iblk2 V c 0 t) (iblk2 V c 1 t) (iblk2 V c 2 t) (iblk2 V c 3 t) lossInit := by
  obtain ⟨n, hn⟩ := t
  cases n with
  | zero => rfl
  | succ n => show lossStep (iblk2 V c 0 ⟨n + 1, hn⟩) (iblk2 V c 1 ⟨n + 1, hn⟩) (iblk2 V c 2 ⟨n + 1, hn⟩) (iblk2 V c 3 ⟨n + 1, hn⟩) (if (n + 1) % 8 = 0 then lossInit else lossAt V c n _) = _; rw [if_pos h]
theorem lossAt_next (c : Dev nD) (t : Fin cfg2.N) (h : t.val % 8 ≠ 0) :
    lossAt V c t.val t.isLt = lossStep (iblk2 V c 0 t) (iblk2 V c 1 t) (iblk2 V c 2 t) (iblk2 V c 3 t) (lossAt V c (t.val - 1) (Nat.lt_of_le_of_lt (Nat.sub_le _ _) t.isLt)) := by
  obtain ⟨n, hn⟩ := t
  cases n with
  | zero => exact absurd rfl h
  | succ n => show lossStep (iblk2 V c 0 ⟨n + 1, hn⟩) (iblk2 V c 1 ⟨n + 1, hn⟩) (iblk2 V c 2 ⟨n + 1, hn⟩) (iblk2 V c 3 ⟨n + 1, hn⟩) (if (n + 1) % 8 = 0 then lossInit else lossAt V c n _) = _; rw [if_neg h]; rfl

/-- The scoped rest without the carried scratch, and the generator register. -/
def others2 (c : Dev nD) : sProp 𝕄 :=
  iprop(Pipeline.scopedRestBut (Ix := Unit) (Name := ℕ) (U := UR sig nD τ) (Lvl := ℕ) (Val := Elt F) spec2 c [cc2_scratch0, cc2_scratch1] ∗ ∃ r, prngReg c r)

/-- The carried scratch at a state. -/
def scr2 (c : Dev nD) (st : Vec F S1x1 .f32 × Vec F S1x1 .f32) : sProp 𝕄 :=
  iprop(owns (c : Thread nD τ) (Memref.whole cc2_scratch0) fullShare st.1 ∗ owns (c : Thread nD τ) (Memref.whole cc2_scratch1) fullShare st.2)

theorem PhiA2_eq (c : Dev nD) : (Pipeline.ΦA spec2 c : sProp 𝕄)
    = iprop(iprop(iprop((∃ d, owns (c : Thread nD τ) (Memref.whole cc2_scratch0) fullShare d) ∗ (∃ d, owns (c : Thread nD τ) (Memref.whole cc2_scratch1) fullShare d))
        ∗ Pipeline.scopedRestBut (Ix := Unit) (Name := ℕ) (U := UR sig nD τ) (Lvl := ℕ) (Val := Elt F) spec2 c [cc2_scratch0, cc2_scratch1]) ∗ ∃ r, prngReg c r) := by
  unfold Pipeline.ΦA
  rw [Pipeline.scopedRest_split_of_list spec2 c [cc2_scratch0, cc2_scratch1] (by decide) (by decide)]
  simp only [owns_whole]
  rfl

theorem PhiA2_open (c : Dev nD) : (Pipeline.ΦA spec2 c : sProp 𝕄) ⊢ iprop(∃ st, scr2 c st ∗ others2 (F := F) c) := by
  rw [PhiA2_eq]
  unfold scr2 others2
  iintro ⟨⟨⟨⟨%d0, H0⟩, ⟨%d1, H1⟩⟩, Hr⟩, Hp⟩
  iexists (⟨d0, d1⟩ : Vec F S1x1 .f32 × Vec F S1x1 .f32)
  isplitr [Hr Hp]
  · isplitl [H0]; · iexact H0
    iexact H1
  isplitl [Hr]; · iexact Hr
  iexact Hp

theorem PhiA2_close (c : Dev nD) (st : Vec F S1x1 .f32 × Vec F S1x1 .f32) : iprop(scr2 c st ∗ others2 (F := F) c) ⊢ (Pipeline.ΦA spec2 c : sProp 𝕄) := by
  rw [PhiA2_eq]
  unfold scr2 others2
  iintro ⟨⟨H0, H1⟩, ⟨Hr, Hp⟩⟩
  isplitr [Hp]
  · isplitr [Hr]
    · isplitl [H0]; · iexists _; iexact H0
      iexists _; iexact H1
    iexact Hr
  iexact Hp

/-- The invariant after `n` points. -/
def PhiS2 (c : Dev nD) : (n : ℕ) → n ≤ cfg2.N → sProp 𝕄
  | 0, _ => Pipeline.ΦA spec2 c
  | n + 1, hn => iprop(scr2 c (lossAt V c n hn) ∗ others2 (F := F) c)
theorem PhiS2_any (c : Dev nD) (n : ℕ) (hn : n ≤ cfg2.N) : PhiS2 V c n hn ⊢ iprop(∃ st, scr2 c st ∗ others2 (F := F) c) := by
  cases n with
  | zero => exact PhiA2_open c
  | succ n =>
    show iprop(scr2 c (lossAt V c n hn) ∗ others2 (F := F) c) ⊢ _
    iintro H; iexists _; iexact H
theorem PhiS2_close (c : Dev nD) (n : ℕ) (hn : n ≤ cfg2.N) : PhiS2 V c n hn ⊢ (Pipeline.ΦA spec2 c : sProp 𝕄) := by
  cases n with
  | zero => exact .rfl
  | succ n => exact PhiA2_close c _
theorem PhiS2_pos (c : Dev nD) (n : ℕ) (hn : n ≤ cfg2.N) (hz : n ≠ 0) :
    PhiS2 V c n hn = iprop(scr2 c (lossAt V c (n - 1) (Nat.lt_of_lt_of_le (Nat.sub_lt (Nat.pos_of_ne_zero hz) one_pos) hn)) ∗ others2 (F := F) c) := by
  cases n with
  | zero => exact absurd rfl hz
  | succ n => rfl

/-- The proof data of the pipeline. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (lossAt V c t.val t.isLt).1
    | ⟨5, _⟩ => (lossAt V c t.val t.isLt).2
  Φ t := PhiS2 V c t.val (Nat.le_of_lt_succ t.isLt)
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (lossAt V c t.val t.isLt).1 := by dsimp only [dat2]
theorem after2_5 (c : Dev nD) (t : Fin cfg2.N) : (dat2 V c).after 5 t = (lossAt V c t.val t.isLt).2 := by dsimp only [dat2]
theorem before2_0 (c : Dev nD) (t : Fin cfg2.N) (d) : (dat2 V c).before 0 t d = iblk2 V c 0 t :=
  before2_0_of V (dat2 V c) (A_eq2 V c 0) (after2_0 V c) t d
theorem leaves2_0 (c : Dev nD) (t : Fin cfg2.N) : (dat2 V c).leavesExact 0 t = owns (c : Thread nD τ) (st2_0 t) fullShare (iblk2 V c 0 t) := by
  unfold Dat.leavesExact; rw [show cfg2.idle 0 (cfg2.grid.coords t) = false from rfl, after2_0]
theorem before2_1 (c : Dev nD) (t : Fin cfg2.N) (d) : (dat2 V c).before 1 t d = iblk2 V c 1 t :=
  before2_1_of V (dat2 V c) (A_eq2 V c 1) (after2_1 V c) t d
theorem leaves2_1 (c : Dev nD) (t : Fin cfg2.N) : (dat2 V c).leavesExact 1 t = owns (c : Thread nD τ) (st2_1 t) fullShare (iblk2 V c 1 t) := by
  unfold Dat.leavesExact; rw [show cfg2.idle 1 (cfg2.grid.coords t) = false from rfl, after2_1]
theorem before2_2 (c : Dev nD) (t : Fin cfg2.N) (d) : (dat2 V c).before 2 t d = iblk2 V c 2 t :=
  before2_2_of V (dat2 V c) (A_eq2 V c 2) (after2_2 V c) t d
theorem leaves2_2 (c : Dev nD) (t : Fin cfg2.N) : (dat2 V c).leavesExact 2 t = owns (c : Thread nD τ) (st2_2 t) fullShare (iblk2 V c 2 t) := by
  unfold Dat.leavesExact; rw [show cfg2.idle 2 (cfg2.grid.coords t) = false from rfl, after2_2]
theorem before2_3 (c : Dev nD) (t : Fin cfg2.N) (d) : (dat2 V c).before 3 t d = iblk2 V c 3 t :=
  before2_3_of V (dat2 V c) (A_eq2 V c 3) (after2_3 V c) t d
theorem leaves2_3 (c : Dev nD) (t : Fin cfg2.N) : (dat2 V c).leavesExact 3 t = owns (c : Thread nD τ) (st2_3 t) fullShare (iblk2 V c 3 t) := by
  unfold Dat.leavesExact; rw [show cfg2.idle 3 (cfg2.grid.coords t) = false from rfl, after2_3]
theorem leaves2_4_idle (c : Dev nD) (t : Fin cfg2.N) (h : t.val % 8 ≠ 7) :
    (dat2 V c).leavesExact 4 t = iprop(∃ d, owns (c : Thread nD τ) (st2_4 t) fullShare ((dat2 V c).before 4 t d)) :=
  Dat.leavesExact_idle _ 4 t (by
    show (!(k2_cond2 (grid2.coords t) == 1#1)) = true
    rw [Bool.not_eq_true', beq_eq_false_iff_ne]; exact fun hh => h ((lossLast_iff t).1 hh)) (by
    rw [Bool.eq_false_iff]; exact fun hh => h ((flush2_4 t).1 hh))
theorem leaves2_4_last (c : Dev nD) (t : Fin cfg2.N) (h : t.val % 8 = 7) :
    (dat2 V c).leavesExact 4 t = owns (c : Thread nD τ) (st2_4 t) fullShare ((lossAt V c t.val t.isLt).1) := by
  unfold Dat.leavesExact
  rw [show cfg2.idle 4 (cfg2.grid.coords t) = false from by
    show (!(k2_cond2 (grid2.coords t) == 1#1)) = false
    rw [Bool.not_eq_false', beq_iff_eq]; exact (lossLast_iff t).2 h, after2_4]
theorem leaves2_5_idle (c : Dev nD) (t : Fin cfg2.N) (h : t.val % 8 ≠ 7) :
    (dat2 V c).leavesExact 5 t = iprop(∃ d, owns (c : Thread nD τ) (st2_5 t) fullShare ((dat2 V c).before 5 t d)) :=
  Dat.leavesExact_idle _ 5 t (by
    show (!(k2_cond2 (grid2.coords t) == 1#1)) = true
    rw [Bool.not_eq_true', beq_eq_false_iff_ne]; exact fun hh => h ((lossLast_iff t).1 hh)) (by
    rw [Bool.eq_false_iff]; exact fun hh => h ((flush2_5 t).1 hh))
theorem leaves2_5_last (c : Dev nD) (t : Fin cfg2.N) (h : t.val % 8 = 7) :
    (dat2 V c).leavesExact 5 t = owns (c : Thread nD τ) (st2_5 t) fullShare ((lossAt V c t.val t.isLt).2) := by
  unfold Dat.leavesExact
  rw [show cfg2.idle 5 (cfg2.grid.coords t) = false from by
    show (!(k2_cond2 (grid2.coords t) == 1#1)) = false
    rw [Bool.not_eq_false', beq_iff_eq]; exact (lossLast_iff t).2 h, after2_5]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4000000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  have hN : t.val < 8 := Nat.lt_of_lt_of_eq t.isLt N_2
  unfold bodyPre2 bodyPost2 bodyAt2
  simp only [before2_0, before2_1, before2_2, before2_3]
  rw [show (dat2 V c).owesAt () t.succ = (dat2 V c).owesAt () t.castSucc from rfl,
    show (dat2 V c).Φ t.succ = iprop(scr2 c (lossAt V c t.val t.isLt) ∗ others2 (F := F) c) from rfl,
    leaves2_0, leaves2_1, leaves2_2, leaves2_3]
  by_cases h0 : t.val % 8 = 0
  · skip
    have hf : lossFirst (grid2.coords t) := (lossFirst_iff t).2 h0
    have hl : ¬ lossLast (grid2.coords t) := fun hh => by have := (lossLast_iff t).1 hh; omega
    rw [leaves2_4_idle V c t (by omega), leaves2_5_idle V c t (by omega), lossAt_first V c t h0]
    rw [show (dat2 V c).Φ t.castSucc = PhiS2 V c t.val t.isLt.le from rfl]
    iintro ⟨HΦ, Ho, ⟨%d0, H0⟩, ⟨%d1, H1⟩, ⟨%d2, H2⟩, ⟨%d3, H3⟩, H4, H5⟩
    ihave HΦ := (PhiS2_any V c t.val t.isLt.le) $$ HΦ
    icases HΦ with ⟨%st, HS, HR⟩
    iapply (loss_run_first c (grid2.coords t) _ _ _ _ _ _ _ _ _ _ _ _ _ _ _ _ (iblk2 V c 0 t) (iblk2 V c 1 t) (iblk2 V c 2 t) (iblk2 V c 3 t)  Set.univ hf hl _)
    unfold scr2 lossIn
    isplitl [H0 H1 H2 H3]
    · isplitl [H0]; · iexact H0
      isplitl [H1]; · iexact H1
      isplitl [H2]; · iexact H2
      iexact H3
    isplitl [HS]
    · icases HS with ⟨Ha, Hb⟩
      isplitl [Ha]; · iexists _; iexact Ha
      iexists _; iexact Hb
    iintro ⟨⟨H0, H1, H2, H3⟩, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  by_cases h1 : t.val % 8 = 7
  · skip
    have hf : ¬ lossFirst (grid2.coords t) := fun hh => h0 ((lossFirst_iff t).1 hh)
    have hl : lossLast (grid2.coords t) := (lossLast_iff t).2 h1
    rw [leaves2_4_last V c t h1, leaves2_5_last V c t h1, lossAt_next V c t h0]
    rw [show (dat2 V c).Φ t.castSucc = PhiS2 V c t.val t.isLt.le from rfl, PhiS2_pos V c t.val _ (by omega)]
    iintro ⟨⟨HS, HR⟩, Ho, ⟨%d0, H0⟩, ⟨%d1, H1⟩, ⟨%d2, H2⟩, ⟨%d3, H3⟩, H4, H5⟩
    iapply (loss_run_last c (grid2.coords t) _ _ _ _ _ _ _ _ _ _ _ _ _ _ _ _ (iblk2 V c 0 t) (iblk2 V c 1 t) (iblk2 V c 2 t) (iblk2 V c 3 t) (lossAt V c (t.val - 1) _) Set.univ hf hl _)
    unfold scr2 lossIn
    isplitl [H0 H1 H2 H3]
    · isplitl [H0]; · iexact H0
      isplitl [H1]; · iexact H1
      isplitl [H2]; · iexact H2
      iexact H3
    isplitl [HS]; · iexact HS
    isplitl [H4]; · icases H4 with ⟨%d4, H4⟩; iexists _; iexact H4
    isplitl [H5]; · icases H5 with ⟨%d5, H5⟩; iexists _; iexact H5
    iintro ⟨⟨H0, H1, H2, H3⟩, HS, H4, H5⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5
  · skip
    have hf : ¬ lossFirst (grid2.coords t) := fun hh => h0 ((lossFirst_iff t).1 hh)
    have hl : ¬ lossLast (grid2.coords t) := fun hh => h1 ((lossLast_iff t).1 hh)
    rw [leaves2_4_idle V c t h1, leaves2_5_idle V c t h1, lossAt_next V c t h0]
    rw [show (dat2 V c).Φ t.castSucc = PhiS2 V c t.val t.isLt.le from rfl, PhiS2_pos V c t.val _ (by omega)]
    iintro ⟨⟨HS, HR⟩, Ho, ⟨%d0, H0⟩, ⟨%d1, H1⟩, ⟨%d2, H2⟩, ⟨%d3, H3⟩, H4, H5⟩
    iapply (loss_run_mid c (grid2.coords t) _ _ _ _ _ _ _ _ _ _ _ _ _ _ _ _ (iblk2 V c 0 t) (iblk2 V c 1 t) (iblk2 V c 2 t) (iblk2 V c 3 t) (lossAt V c (t.val - 1) _) Set.univ hf hl _)
    unfold scr2 lossIn
    isplitl [H0 H1 H2 H3]
    · isplitl [H0]; · iexact H0
      isplitl [H1]; · iexact H1
      isplitl [H2]; · iexact H2
      iexact H3
    isplitl [HS]; · iexact HS
    iintro ⟨⟨H0, H1, H2, H3⟩, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    iexact H5

theorem defs₀_row2 (t : Fin cfg2.N) :
    defs₀ (F := F) .tc cfg2.body (cfg2.bodyArgs t (cfg2.slots t)) = bodyAt2 t := by
  unfold defs₀; rw [Defs.onTc_tc]

/-- The body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.KI.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WholeRead
public import proofs.«01_k».proof.Proof.KI.Dat0
public import proofs.«01_k».proof.Proof.KI.Dat1
public import proofs.«01_k».proof.Proof.KI.Dat2
public import proofs.«01_k».proof.Proof.Gen.KernelIdeal.Regions
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! The unscoped buffers between the calls. -/

/-- Two buffers replaced. -/
abbrev upd2 (W : Valuation τ sig (Elt F)) (a b : Ref sig .tc) (x : (Proc.devRef (τ := τ) .tc a).ty.Contents (Elt F)) (y : (Proc.devRef (τ := τ) .tc b).ty.Contents (Elt F)) :
    Valuation τ sig (Elt F) := Function.update (Function.update W (a : DevRef τ sig) x) (b : DevRef τ sig) y
theorem upd2_fst (W : Valuation τ sig (Elt F)) (a b : Ref sig .tc) (h : a ≠ b) (x) (y) : upd2 W a b x y a = x := by
  rw [upd2, Function.update_of_ne (StableHlo.devRef_ne_of_ne h), Function.update_self]
theorem upd2_snd (W : Valuation τ sig (Elt F)) (a b : Ref sig .tc) (x) (y) : upd2 W a b x y b = y := by
  rw [upd2, Function.update_self]
theorem upd2_of (W : Valuation τ sig (Elt F)) (a b r : Ref sig .tc) (ha : r ≠ a) (hb : r ≠ b) (x) (y) : upd2 W a b x y r = W r := by
  rw [upd2, Function.update_of_ne (StableHlo.devRef_ne_of_ne hb), Function.update_of_ne (StableHlo.devRef_ne_of_ne ha)]

/-- After the preparation call; -/
def F0 (c : Dev nD) : Valuation τ sig (Elt F) :=
  upd2 (V0 m c) main_v0_0 main_v0_1 ((dat0 (fun c b => V0 m c b) c).arrAt 1 cfg0.N) ((dat0 (fun c b => V0 m c b) c).arrAt 2 cfg0.N)
def G0 (c : Dev nD) : Valuation τ sig (Elt F) := StableHlo.after hostOps1 (F0 m c)
/-- after the mining call; -/
def F1 (c : Dev nD) : Valuation τ sig (Elt F) :=
  upd2 (G0 m c) main_v4_0 main_v4_1 ((dat1 (fun c b => G0 m c b) c).arrAt 5 cfg1.N) ((dat1 (fun c b => G0 m c b) c).arrAt 6 cfg1.N)
def G1 (c : Dev nD) : Valuation τ sig (Elt F) := StableHlo.after hostOps2_2 (StableHlo.after hostOps2_1 (StableHlo.after hostOps2 (F1 m c)))
/-- after the loss call; -/
def F2 (c : Dev nD) : Valuation τ sig (Elt F) :=
  upd2 (G1 m c) main_v9_0 main_v9_1 ((dat2 (fun c b => G1 m c b) c).arrAt 4 cfg2.N) ((dat2 (fun c b => G1 m c b) c).arrAt 5 cfg2.N)
/-- and at the end. -/
def G2 (c : Dev nD) : Valuation τ sig (Elt F) := StableHlo.after hostOps3 (F2 m c)

def outs : Outs (F := F) := fun n r c => match n with
  | 1 => F0 m c r
  | 3 => F1 m c r
  | _ => F2 m c r

theorem V1_eq (c : Dev nD) : V1 m (outs m) c = F0 m c := by
  show upd2 (V0 m c) main_v0_0 main_v0_1 (F0 m c main_v0_0) (F0 m c main_v0_1) = F0 m c
  rw [F0, upd2_fst _ _ _ (by decide), upd2_snd]
theorem V2_eq (c : Dev nD) : V2 m (outs m) c = G0 m c := by rw [V2, V1_eq]; rfl
theorem V3_eq (c : Dev nD) : V3 m (outs m) c = F1 m c := by
  show upd2 (V2 m (outs m) c) main_v4_0 main_v4_1 (F1 m c main_v4_0) (F1 m c main_v4_1) = F1 m c
  rw [V2_eq, F1, upd2_fst _ _ _ (by decide), upd2_snd]
theorem V6_eq (c : Dev nD) : V6 m (outs m) c = G1 m c := by rw [V6, V5, V4, V3_eq]; rfl
theorem V7_eq (c : Dev nD) : V7 m (outs m) c = F2 m c := by
  show upd2 (V6 m (outs m) c) main_v9_0 main_v9_1 (F2 m c main_v9_0) (F2 m c main_v9_1) = F2 m c
  rw [V6_eq, F2, upd2_fst _ _ _ (by decide), upd2_snd]
theorem V8_eq (c : Dev nD) : V8 m (outs m) c = G2 m c := by rw [V8, V7_eq]; rfl

abbrev pdats : (p : Fin 3) → (c : Dev nD) → Dat τ (Elt F) Unit ℕ (UR sig nD τ) ℕ (cfgs p) c
  | 0 => dat0 fun c b => V0 m c b
  | 1 => dat1 fun c b => G0 m c b
  | 2 => dat2 fun c b => G1 m c b
  | ⟨_ + 3, h⟩ => absurd h (Nat.not_lt.2 (Nat.le_add_left _ _))

def 𝒱₀ : Variants := Variants.none
abbrev LL : GSem nD τ sig → Finset Unit := fun _ => ∅
abbrev lvl : GSem nD τ sig → Unit → ℕ := fun _ _ => 0
/-- What rides along between the calls. -/
abbrev Rst (c : Dev nD) : sProp 𝕄 := iprop((∃ r, prngReg c r) ∗ ∃ W, owes (c : Thread nD τ) (0 : CellTallies nD τ sig Unit) W)

theorem fin0 (c : Dev nD) (w : Fin cfg0.W) : (pdats m 0 c).arrAt w cfg0.N = F0 m c (Pipeline.arrRef spec0 w) := by
  match w with
  | ⟨0, _⟩ => exact ((dat0 (fun c b => V0 m c b) c).arrAt_in 0 rfl _).trans ((A_eq0 _ c 0).trans (by unfold F0; exact (upd2_of _ _ _ (Pipeline.arrRef spec0 0) (by decide) (by decide) _ _).symm))
  | ⟨1, _⟩ => unfold F0; exact (upd2_fst _ _ _ (show main_v0_0 ≠ main_v0_1 by decide) _ _).symm
  | ⟨2, _⟩ => unfold F0; exact (upd2_snd _ _ _ _ _).symm
theorem rest0 (c : Dev nD) (b : Ref sig .tc) (h : b ∉ Finset.univ.image (Pipeline.arrRef spec0)) : F0 m c b = V0 m c b := by
  unfold F0
  exact upd2_of _ _ _ b (fun e => h (e ▸ Finset.mem_image.2 ⟨1, Finset.mem_univ _, rfl⟩)) (fun e => h (e ▸ Finset.mem_image.2 ⟨2, Finset.mem_univ _, rfl⟩)) _ _

set_option backward.isDefEq.respectTransparency.types false in
set_option maxHeartbeats 1000000 in
/-- Call 0 as a segment. -/
def reg0 : Pipeline.RegionSeg (pcfgs (F := F)) adm (pdats m) () defs₀ 𝒱₀ LL lvl 0 where
  win := launch0.win.to₀
  block_pos := launch0.block_pos
  stage_whole := launch0.stage_whole
  K := PEmpty
  osem k := k.elim
  ho := Pipeline.OwnSemFacts.none _
  hbody c := (body_obligation0 (fun c b => V0 m c b) c).loose
  hwaits := Pipeline.hwaits_of_owed_zero _ _ _ _ LL lvl 0 fun _ _ => rfl
  pre c := iprop(StableHlo.held (c : Thread nD τ) (Pipeline.ucRefs τ sig) (V0 m c) ∗ Rst (F := F) c)
  post c := iprop(StableHlo.held (c : Thread nD τ) (Pipeline.ucRefs τ sig) (F0 m c) ∗ Rst (F := F) c)
  X c := iprop(∃ r, prngReg c r)
  Y c := iprop(∃ r, prngReg c r)
  Z c := Pipeline.unscopedRest (Ix := Unit) (Name := ℕ) (U := UR sig nD τ) (Lvl := ℕ) spec0 c (fun b => V0 m c b)
  hentry c := by
    rw [Pipeline.ownSems0_none]
    have hsplit := Pipeline.arrays_of_unscopedBufs (p := 0) (pcfgs (F := F)) adm (pdats m) launch0.win launch0.arr_whole c ((pdats m 0 c).share_full fun _ => rfl) (fun b => V0 m c b) (A_eq0 (fun c b => V0 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c (pdats m) ((pdats m 0 c).share_full fun _ => rfl) (fun b => V0 m c b) (fun b => F0 m c b) ((pdats m 0 c).arrAt · cfg0.N) (fin0 m c) (rest0 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

theorem fin1 (c : Dev nD) (w : Fin cfg1.W) : (pdats m 1 c).arrAt w cfg1.N = F1 m c (Pipeline.arrRef spec1 w) := by
  match w with
  | ⟨0, _⟩ => exact ((dat1 (fun c b => G0 m c b) c).arrAt_in 0 rfl _).trans ((A_eq1 _ c 0).trans (by unfold F1; exact (upd2_of _ _ _ (Pipeline.arrRef spec1 0) (by decide) (by decide) _ _).symm))
  | ⟨1, _⟩ => exact ((dat1 (fun c b => G0 m c b) c).arrAt_in 1 rfl _).trans ((A_eq1 _ c 1).trans (by unfold F1; exact (upd2_of _ _ _ (Pipeline.arrRef spec1 1) (by decide) (by decide) _ _).symm))
  | ⟨2, _⟩ => exact ((dat1 (fun c b => G0 m c b) c).arrAt_in 2 rfl _).trans ((A_eq1 _ c 2).trans (by unfold F1; exact (upd2_of _ _ _ (Pipeline.arrRef spec1 2) (by decide) (by decide) _ _).symm))
  | ⟨3, _⟩ => exact ((dat1 (fun c b => G0 m c b) c).arrAt_in 3 rfl _).trans ((A_eq1 _ c 3).trans (by unfold F1; exact (upd2_of _ _ _ (Pipeline.arrRef spec1 3) (by decide) (by decide) _ _).symm))
  | ⟨4, _⟩ => exact ((dat1 (fun c b => G0 m c b) c).arrAt_in 4 rfl _).trans ((A_eq1 _ c 4).trans (by unfold F1; exact (upd2_of _ _ _ (Pipeline.arrRef spec1 4) (by decide) (by decide) _ _).symm))
  | ⟨5, _⟩ => unfold F1; exact (upd2_fst _ _ _ (show main_v4_0 ≠ main_v4_1 by decide) _ _).symm
  | ⟨6, _⟩ => unfold F1; exact (upd2_snd _ _ _ _ _).symm
theorem rest1 (c : Dev nD) (b : Ref sig .tc) (h : b ∉ Finset.univ.image (Pipeline.arrRef spec1)) : F1 m c b = G0 m c b := by
  unfold F1
  exact upd2_of _ _ _ b (fun e => h (e ▸ Finset.mem_image.2 ⟨5, Finset.mem_univ _, rfl⟩)) (fun e => h (e ▸ Finset.mem_image.2 ⟨6, Finset.mem_univ _, rfl⟩)) _ _

set_option backward.isDefEq.respectTransparency.types false in
set_option maxHeartbeats 1000000 in
/-- Call 1 as a segment. -/
def reg1 : Pipeline.RegionSeg (pcfgs (F := F)) adm (pdats m) () defs₀ 𝒱₀ LL lvl 1 where
  win := launch₀1.win
  block_pos := launch₀1.block_pos
  stage_whole := launch₀1.stage_whole
  K := PEmpty
  osem k := k.elim
  ho := Pipeline.OwnSemFacts.none _
  hbody c := (body_obligation1 (fun c b => G0 m c b) c).loose
  hwaits := Pipeline.hwaits_of_owed_zero _ _ _ _ LL lvl 1 fun _ _ => rfl
  pre c := iprop(StableHlo.held (c : Thread nD τ) (Pipeline.ucRefs τ sig) (G0 m c) ∗ Rst (F := F) c)
  post c := iprop(StableHlo.held (c : Thread nD τ) (Pipeline.ucRefs τ sig) (F1 m c) ∗ Rst (F := F) c)
  X c := iprop(∃ r, prngReg c r)
  Y c := iprop(∃ r, prngReg c r)
  Z c := Pipeline.unscopedRest (Ix := Unit) (Name := ℕ) (U := UR sig nD τ) (Lvl := ℕ) spec1 c (fun b => G0 m c b)
  hentry c := by
    rw [Pipeline.ownSems0_none]
    have hsplit := Pipeline.arrays_of_unscopedBufs_shared (p := 1) (pcfgs (F := F)) adm (pdats m) launch₀1.win launch₀1.sharedIn launch₀1.arr_whole c (fun _ _ => rfl) (fun b => G0 m c b) (A_eq1 (fun c b => G0 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = PhiS1 (fun c b => G0 m c b) c cfg1.N le_rfl from rfl]
    iintro H
    ihave H := (PhiS1_close (fun c b => G0 m c b) c cfg1.N le_rfl) $$ H
    unfold Pipeline.ΦA
    icases H with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ) launch₀1.win launch₀1.sharedIn launch₀1.arr_whole c (pdats m) (fun _ _ => rfl) (fun b => G0 m c b) (fun b => F1 m c b) ((pdats m 1 c).arrAt · cfg1.N) (fin1 m c) (rest1 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

theorem fin2 (c : Dev nD) (w : Fin cfg2.W) : (pdats m 2 c).arrAt w cfg2.N = F2 m c (Pipeline.arrRef spec2 w) := by
  match w with
  | ⟨0, _⟩ => exact ((dat2 (fun c b => G1 m c b) c).arrAt_in 0 rfl _).trans ((A_eq2 _ c 0).trans (by unfold F2; exact (upd2_of _ _ _ (Pipeline.arrRef spec2 0) (by decide) (by decide) _ _).symm))
  | ⟨1, _⟩ => exact ((dat2 (fun c b => G1 m c b) c).arrAt_in 1 rfl _).trans ((A_eq2 _ c 1).trans (by unfold F2; exact (upd2_of _ _ _ (Pipeline.arrRef spec2 1) (by decide) (by decide) _ _).symm))
  | ⟨2, _⟩ => exact ((dat2 (fun c b => G1 m c b) c).arrAt_in 2 rfl _).trans ((A_eq2 _ c 2).trans (by unfold F2; exact (upd2_of _ _ _ (Pipeline.arrRef spec2 2) (by decide) (by decide) _ _).symm))
  | ⟨3, _⟩ => exact ((dat2 (fun c b => G1 m c b) c).arrAt_in 3 rfl _).trans ((A_eq2 _ c 3).trans (by unfold F2; exact (upd2_of _ _ _ (Pipeline.arrRef spec2 3) (by decide) (by decide) _ _).symm))
  | ⟨4, _⟩ => unfold F2; exact (upd2_fst _ _ _ (show main_v9_0 ≠ main_v9_1 by decide) _ _).symm
  | ⟨5, _⟩ => unfold F2; exact (upd2_snd _ _ _ _ _).symm
theorem rest2 (c : Dev nD) (b : Ref sig .tc) (h : b ∉ Finset.univ.image (Pipeline.arrRef spec2)) : F2 m c b = G1 m c b := by
  unfold F2
  exact upd2_of _ _ _ b (fun e => h (e ▸ Finset.mem_image.2 ⟨4, Finset.mem_univ _, rfl⟩)) (fun e => h (e ▸ Finset.mem_image.2 ⟨5, Finset.mem_univ _, rfl⟩)) _ _

set_option backward.isDefEq.respectTransparency.types false in
set_option maxHeartbeats 1000000 in
/-- Call 2 as a segment. -/
def reg2 : Pipeline.RegionSeg (pcfgs (F := F)) adm (pdats m) () defs₀ 𝒱₀ LL lvl 2 where
  win := launch2.win.to₀
  block_pos := launch2.block_pos
  stage_whole := launch2.stage_whole
  K := PEmpty
  osem k := k.elim
  ho := Pipeline.OwnSemFacts.none _
  hbody c := (body_obligation2 (fun c b => G1 m c b) c).loose
  hwaits := Pipeline.hwaits_of_owed_zero _ _ _ _ LL lvl 2 fun _ _ => rfl
  pre c := iprop(StableHlo.held (c : Thread nD τ) (Pipeline.ucRefs τ sig) (G1 m c) ∗ Rst (F := F) c)
  post c := iprop(StableHlo.held (c : Thread nD τ) (Pipeline.ucRefs τ sig) (F2 m c) ∗ Rst (F := F) c)
  X c := iprop(∃ r, prngReg c r)
  Y c := iprop(∃ r, prngReg c r)
  Z c := Pipeline.unscopedRest (Ix := Unit) (Name := ℕ) (U := UR sig nD τ) (Lvl := ℕ) spec2 c (fun b => G1 m c b)
  hentry c := by
    rw [Pipeline.ownSems0_none]
    have hsplit := Pipeline.arrays_of_unscopedBufs (p := 2) (pcfgs (F := F)) adm (pdats m) launch2.win launch2.arr_whole c ((pdats m 2 c).share_full fun _ => rfl) (fun b => G1 m c b) (A_eq2 (fun c b => G1 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = PhiS2 (fun c b => G1 m c b) c cfg2.N le_rfl from rfl]
    iintro H
    ihave H := (PhiS2_close (fun c b => G1 m c b) c cfg2.N le_rfl) $$ H
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ) launch2.win launch2.arr_whole c (pdats m) ((pdats m 2 c).share_full fun _ => rfl) (fun b => G1 m c b) (fun b => F2 m c b) ((pdats m 2 c).arrAt · cfg2.N) (fin2 m c) (rest2 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
set_option maxHeartbeats 1000000 in
/-- The whole program: it ends, the arguments as launched, every counter at zero, and the result read off the last
    valuation. -/
theorem run (ρ : Dev nD → PrngReg) : θ_run defs (onTc (τ := τ) (main (F := F))) ⟨m, fun _ => 0, ρ⟩ (fun r => (∀ c : Dev nD,
      r.2.mem ((c.tc : Thread nD τ).loc main_v13) = G2 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (pdats m) () cellOf_inj (emb₁ (Ix := Unit)) defs₀ 𝒱₀ LL lvl m ρ main
    (segs m (outs m) 𝒱₀ LL lvl (fun _ c => Rst (F := F) c) () (pdats m) (reg0 m) (reg1 m) (reg2 m))
    (fun c Q => by
      rewrite [main_chain c, Pipeline.Seg.run_eq_chain,
        show (segs m (outs m) 𝒱₀ LL lvl (fun _ c => Rst (F := F) c) () (pdats m) (reg0 m) (reg1 m) (reg2 m) c).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst (F := F) c))
    (Tₙ := fun c => StableHlo.held (c : Thread nD τ) (Pipeline.ucRefs τ sig) (V8 m (outs m) c))
    (hch := fun c => ⟨.rfl, (show iprop(StableHlo.held (c : Thread nD τ) (Pipeline.ucRefs τ sig) (F0 m c) ∗ Rst (F := F) c) ⊢ iprop(StableHlo.held (c : Thread nD τ) (Pipeline.ucRefs τ sig) (V1 m (outs m) c) ∗ Rst (F := F) c) by rw [V1_eq]),
      (show iprop(StableHlo.held (c : Thread nD τ) (Pipeline.ucRefs τ sig) (V2 m (outs m) c) ∗ Rst (F := F) c) ⊢ iprop(StableHlo.held (c : Thread nD τ) (Pipeline.ucRefs τ sig) (G0 m c) ∗ Rst (F := F) c) by rw [V2_eq]),
      (show iprop(StableHlo.held (c : Thread nD τ) (Pipeline.ucRefs τ sig) (F1 m c) ∗ Rst (F := F) c) ⊢ iprop(StableHlo.held (c : Thread nD τ) (Pipeline.ucRefs τ sig) (V3 m (outs m) c) ∗ Rst (F := F) c) by rw [V3_eq]), .rfl, .rfl,
      (show iprop(StableHlo.held (c : Thread nD τ) (Pipeline.ucRefs τ sig) (V6 m (outs m) c) ∗ Rst (F := F) c) ⊢ iprop(StableHlo.held (c : Thread nD τ) (Pipeline.ucRefs τ sig) (G1 m c) ∗ Rst (F := F) c) by rw [V6_eq]),
      (show iprop(StableHlo.held (c : Thread nD τ) (Pipeline.ucRefs τ sig) (F2 m c) ∗ Rst (F := F) c) ⊢ iprop(StableHlo.held (c : Thread nD τ) (Pipeline.ucRefs τ sig) (V7 m (outs m) c) ∗ Rst (F := F) c) by rw [V7_eq]),
      sep_mono .rfl (by iintro ⟨-, H⟩; iexact H)⟩)
    (hinit := by
      refine Pipeline.initEach LL lvl fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v13) = G2 m c main_v13 ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    exact ⟨(h (Proc.devRef .tc main_v13) (Finset.mem_filter.mpr ⟨StableHlo.devRef_mem_tcRefs main_v13, by decide⟩)).trans (by rw [V8_eq]),
      (h (Proc.devRef .tc main_arg0) (Finset.mem_filter.mpr ⟨StableHlo.devRef_mem_tcRefs main_arg0, by decide⟩)).trans (V8_main_arg0 m (outs m) c),
      (h (Proc.devRef .tc main_arg1) (Finset.mem_filter.mpr ⟨StableHlo.devRef_mem_tcRefs main_arg1, by decide⟩)).trans (V8_main_arg1 m (outs m) c)⟩
  · iexact HSI

end Cert.KernelIdeal.Hand

end
-- ==== Proof.RefRun.lean ====
module

public import proofs.«01_k».proof.ReferenceIdeal
public import proofs.«01_k».proof.Proof.Gen.ReferenceIdeal
public import Idealize.ShloMosaic.Lib.Claim
public import Idealize.ShloMosaic.PureOps.Ideal

@[expose] public section

set_option maxRecDepth 16384

noncomputable section

namespace Cert.RefRun

open Idealize.ShloMosaic Idealize.SL.Sem
open Cert.ReferenceIdeal

set_option maxHeartbeats 0 in
theorem ref_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  have h : θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
    hlo_run
  exact (θ_run _ _ _).mono (fun r hr => ⟨hr, sem_eq_zero_of_no_sems (by decide) r.2⟩) h

end Cert.RefRun

end
-- ==== Proof.Val.Lane.lean ====
module

public import Idealize.ShloMosaic.PureOps.Ideal
public import Mathlib.Data.Nat.Count
public import Mathlib.Data.EReal.Operations
public import Mathlib.Algebra.BigOperators.Fin

@[expose] public section

noncomputable section

namespace Cert.Lane

open Classical

/-- `p` is the first of the first `q` columns with `μ` at which `σ` is largest. -/
def Best (μ : ℕ → Prop) (σ : ℕ → ℝ) (q p : ℕ) : Prop :=
  p < q ∧ μ p ∧ (∀ u, u < q → μ u → σ u ≤ σ p) ∧ ∀ u, u < p → μ u → σ u < σ p

theorem Best.unique {μ : ℕ → Prop} {σ : ℕ → ℝ} {q p p' : ℕ} (h : Best μ σ q p) (h' : Best μ σ q p') : p = p' := by
  obtain ⟨h1, h2, h3, h4⟩ := h
  obtain ⟨k1, k2, k3, k4⟩ := h'
  rcases lt_trichotomy p p' with hlt | rfl | hlt
  · exact absurd (k4 p hlt h2) (not_lt.2 (h3 p' k1 k2))
  · rfl
  · exact absurd (h4 p' hlt k2) (not_lt.2 (k3 p h1 h2))

/-- The same column is best for two scores in the same order. -/
theorem Best.mono {μ : ℕ → Prop} {σ τ : ℕ → ℝ} {q p : ℕ} (h : Best μ σ q p)
    (hle : ∀ u v, u < q → v < q → (σ u ≤ σ v ↔ τ u ≤ τ v)) : Best μ τ q p := by
  obtain ⟨h1, h2, h3, h4⟩ := h
  refine ⟨h1, h2, fun u hu hm => (hle u p hu h1).1 (h3 u hu hm), fun u hu hm => ?_⟩
  exact lt_of_not_ge fun hge => absurd ((hle p u h1 (hu.trans h1)).2 hge) (not_le.2 (h4 u hu hm))

/-- Among nonempty columns there is a best one. -/
theorem exists_best (μ : ℕ → Prop) (σ : ℕ → ℝ) (q : ℕ) (h : ∃ u, u < q ∧ μ u) : ∃ p, Best μ σ q p := by
  have key : ∀ n, n ≤ q → (∀ u, u < n → ¬ μ u) ∨ ∃ p, Best μ σ n p := by
    intro n
    induction n with
    | zero => exact fun _ => .inl fun u hu => absurd hu (by omega)
    | succ n ih =>
      intro hn
      rcases ih (by omega) with hno | ⟨p, h1, h2, h3, h4⟩
      · by_cases hm : μ n
        · refine .inr ⟨n, by omega, hm, fun u hu hmu => ?_, fun u hu hmu => absurd hmu (hno u hu)⟩
          rcases Nat.lt_succ_iff_lt_or_eq.1 hu with h' | rfl
          · exact absurd hmu (hno u h')
          · exact le_refl _
        · refine .inl fun u hu => ?_
          rcases Nat.lt_succ_iff_lt_or_eq.1 hu with h' | rfl
          · exact hno u h'
          · exact hm
      · by_cases hm : μ n ∧ σ p < σ n
        · refine .inr ⟨n, by omega, hm.1, fun u hu hmu => ?_, fun u hu hmu => (h3 u hu hmu).trans_lt hm.2⟩
          rcases Nat.lt_succ_iff_lt_or_eq.1 hu with h' | rfl
          · exact (h3 u h' hmu).trans hm.2.le
          · exact le_refl _
        · refine .inr ⟨p, by omega, h2, fun u hu hmu => ?_, h4⟩
          rcases Nat.lt_succ_iff_lt_or_eq.1 hu with h' | rfl
          · exact h3 u h' hmu
          · exact not_lt.1 fun hlt => hm ⟨hmu, hlt⟩
  rcases key q le_rfl with hno | hb
  · obtain ⟨u, hu, hm⟩ := h
    exact absurd hm (hno u hu)
  · exact hb

/-- How many of the first `n` columns have `μ`. -/
def cnt (μ : ℕ → Prop) (n : ℕ) : ℕ := Nat.count μ n

theorem cnt_add (μ : ℕ → Prop) (a b : ℕ) : cnt μ (a + b) = cnt μ a + cnt (fun k => μ (a + k)) b := by
  unfold cnt
  exact Nat.count_add (p := μ) a b

theorem cnt_not (μ : ℕ → Prop) (n : ℕ) : cnt μ n + cnt (fun u => ¬ μ u) n = n := by
  unfold cnt
  induction n with
  | zero => simp
  | succ n ih => rw [Nat.count_succ, Nat.count_succ]; by_cases h : μ n <;> simp [h] <;> omega

theorem cnt_le (μ : ℕ → Prop) (n : ℕ) : cnt μ n ≤ n := by
  have := cnt_not μ n; omega

theorem cnt_pos {μ : ℕ → Prop} {p n : ℕ} (hp : p < n) (h : μ p) : 1 ≤ cnt μ n := by
  unfold cnt
  rw [Nat.count_eq_card_filter_range]
  exact Finset.card_pos.2 ⟨p, by simp [hp, h]⟩

theorem cnt_zero {μ : ℕ → Prop} {n : ℕ} (h : ∀ u, u < n → ¬ μ u) : cnt μ n = 0 := by
  unfold cnt
  rw [Nat.count_eq_card_filter_range, Finset.card_eq_zero, Finset.filter_eq_empty_iff]
  intro u hu
  exact h u (by simpa using hu)

/-- The step of one chunk of `w` columns: the best so far against the chunk's best. -/
theorem Best.step_new {μ : ℕ → Prop} {σ : ℕ → ℝ} {q w p r : ℕ} (h : Best μ σ q p)
    (hr : Best (fun k => μ (q + k)) (fun k => σ (q + k)) w r) (hlt : σ p < σ (q + r)) : Best μ σ (q + w) (q + r) := by
  obtain ⟨h1, h2, h3, h4⟩ := h
  obtain ⟨r1, r2, r3, r4⟩ := hr
  refine ⟨by omega, r2, fun u hu hm => ?_, fun u hu hm => ?_⟩
  · by_cases huq : u < q
    · exact (h3 u huq hm).trans hlt.le
    · obtain ⟨k, rfl⟩ := Nat.exists_eq_add_of_le (not_lt.1 huq)
      exact r3 k (by omega) hm
  · by_cases huq : u < q
    · exact (h3 u huq hm).trans_lt hlt
    · obtain ⟨k, rfl⟩ := Nat.exists_eq_add_of_le (not_lt.1 huq)
      exact r4 k (by omega) hm

theorem Best.step_first {μ : ℕ → Prop} {σ : ℕ → ℝ} {q w r : ℕ} (h : ∀ u, u < q → ¬ μ u)
    (hr : Best (fun k => μ (q + k)) (fun k => σ (q + k)) w r) : Best μ σ (q + w) (q + r) := by
  obtain ⟨r1, r2, r3, r4⟩ := hr
  refine ⟨by omega, r2, fun u hu hm => ?_, fun u hu hm => ?_⟩
  · by_cases huq : u < q
    · exact absurd hm (h u huq)
    · obtain ⟨k, rfl⟩ := Nat.exists_eq_add_of_le (not_lt.1 huq)
      exact r3 k (by omega) hm
  · by_cases huq : u < q
    · exact absurd hm (h u huq)
    · obtain ⟨k, rfl⟩ := Nat.exists_eq_add_of_le (not_lt.1 huq)
      exact r4 k (by omega) hm

theorem Best.step_old {μ : ℕ → Prop} {σ : ℕ → ℝ} {q w p : ℕ} (h : Best μ σ q p)
    (hr : ∀ k, k < w → μ (q + k) → σ (q + k) ≤ σ p) : Best μ σ (q + w) p := by
  obtain ⟨h1, h2, h3, h4⟩ := h
  refine ⟨by omega, h2, fun u hu hm => ?_, h4⟩
  by_cases huq : u < q
  · exact h3 u huq hm
  · obtain ⟨k, rfl⟩ := Nat.exists_eq_add_of_le (not_lt.1 huq)
    exact hr k (by omega) hm

/-- What a lane holds of the columns with `μ` after `q` columns: the largest score (the bottom if there is none), the
    rank of the first column reaching it, and the number of columns. -/
def Inv (μ : ℕ → Prop) (σ : ℕ → ℝ) (q : ℕ) (mx cj tp : EReal) : Prop :=
  tp = (cnt μ q : EReal) ∧
    ((mx = ⊥ ∧ cj = 0 ∧ ∀ u, u < q → ¬ μ u) ∨ ∃ p, Best μ σ q p ∧ mx = (σ p : EReal) ∧ cj = (cnt μ (p + 1) : EReal))

/-- The invariant over one chunk, from what the chunk computes. -/
theorem Inv.step {μ : ℕ → Prop} {σ : ℕ → ℝ} {q w : ℕ} {mx cj tp : EReal} (h : Inv μ σ q mx cj tp)
    {bmax cpos bp : EReal} (hbp : bp = (cnt (fun k => μ (q + k)) w : EReal))
    (hb : (bmax = ⊥ ∧ ∀ k, k < w → ¬ μ (q + k)) ∨ ∃ r, Best (fun k => μ (q + k)) (fun k => σ (q + k)) w r ∧ bmax = (σ (q + r) : EReal)
        ∧ cpos = (cnt (fun k => μ (q + k)) (r + 1) : EReal)) :
    Inv μ σ (q + w) (if mx < bmax then bmax else mx) (if mx < bmax then tp + cpos else cj) (tp + bp) := by
  obtain ⟨htp, hst⟩ := h
  refine ⟨by rw [htp, hbp, cnt_add]; push_cast; rfl, ?_⟩
  rcases hb with ⟨hbot, hno⟩ | ⟨r, hr, hbm, hcp⟩
  · rw [hbot, if_neg (not_lt.2 bot_le), if_neg (not_lt.2 bot_le)]
    rcases hst with ⟨h1, h2, h3⟩ | ⟨p, hp, h1, h2⟩
    · refine .inl ⟨h1, h2, fun u hu => ?_⟩
      by_cases huq : u < q
      · exact h3 u huq
      · obtain ⟨k, rfl⟩ := Nat.exists_eq_add_of_le (not_lt.1 huq)
        exact hno k (by omega)
    · exact .inr ⟨p, hp.step_old fun k hk hm => absurd hm (hno k hk), h1, h2⟩
  · have hrank : tp + cpos = (cnt μ (q + r + 1) : EReal) := by
      rw [htp, hcp, add_assoc q r 1, cnt_add μ q (r + 1)]; push_cast; rfl
    rcases hst with ⟨h1, h2, h3⟩ | ⟨p, hp, h1, h2⟩
    · have hlt : mx < bmax := by rw [h1, hbm]; exact EReal.bot_lt_coe _
      rw [if_pos hlt, if_pos hlt]
      exact .inr ⟨q + r, Best.step_first h3 hr, hbm, hrank⟩
    · by_cases hlt : mx < bmax
      · rw [if_pos hlt, if_pos hlt]
        refine .inr ⟨q + r, hp.step_new hr ?_, hbm, hrank⟩
        rw [h1, hbm] at hlt
        exact EReal.coe_lt_coe_iff.1 hlt
      · rw [if_neg hlt, if_neg hlt]
        refine .inr ⟨p, hp.step_old fun k hk hm => ?_, h1, h2⟩
        rw [h1, hbm] at hlt
        exact (hr.2.2.1 k hk hm).trans (by simpa using hlt)

/-- The least marked row of a chunk, through a fold with a large filler. -/
theorem fold_min_first {n : ℕ} (P : Fin n → Prop) [DecidablePred P] (r : Fin n) (hr : P r) (hlt : ∀ x, x < r → ¬ P x) (B : EReal)
    (hB : ((n : ℝ) : EReal) ≤ B) :
    Finset.univ.fold min (⊤ : EReal) (fun x : Fin n => if P x then (((x : ℕ) : ℝ) : EReal) else B) = (((r : ℕ) : ℝ) : EReal) := by
  apply le_antisymm
  · refine (Finset.fold_min_le _).2 (.inr ⟨r, Finset.mem_univ _, ?_⟩)
    rw [if_pos hr]
  · refine (Finset.le_fold_min _).2 ⟨le_top, fun x _ => ?_⟩
    by_cases hx : P x
    · rw [if_pos hx, EReal.coe_le_coe_iff]
      exact_mod_cast not_lt.1 fun h => hlt x h hx
    · rw [if_neg hx]
      exact le_trans (EReal.coe_le_coe_iff.2 (by exact_mod_cast r.isLt.le)) hB

/-- A sum of ones over marked rows up to a row counts them. -/
theorem sum_count {n : ℕ} (μ : ℕ → Prop) (r : ℕ) (hr : r ≤ n) :
    ∑ x : Fin n, (if μ x then (if (x : ℕ) < r then (1 : EReal) else 0) else 0) = (cnt μ r : EReal) := by
  have h1 : ∀ x : Fin n, (if μ x then (if (x : ℕ) < r then (1 : EReal) else 0) else 0) = if (μ x ∧ (x : ℕ) < r) then (1 : EReal) else 0 := by
    intro x; by_cases h : μ x <;> simp [h]
  rw [Finset.sum_congr rfl fun x _ => h1 x, Fin.sum_univ_eq_sum_range (fun x => if (μ x ∧ x < r) then (1 : EReal) else 0) n,
    Finset.sum_boole]
  unfold cnt
  rw [Nat.count_eq_card_filter_range]
  congr 2
  ext x
  simp only [Finset.mem_filter, Finset.mem_range]
  constructor
  · rintro ⟨_, h2, h3⟩; exact ⟨h3, h2⟩
  · rintro ⟨h2, h3⟩; exact ⟨lt_of_lt_of_le h2 hr, h3, h2⟩

theorem sum_count_all {n : ℕ} (μ : ℕ → Prop) :
    ∑ x : Fin n, (if μ x then (1 : EReal) else 0) = (cnt μ n : EReal) := by
  rw [← sum_count μ n le_rfl]
  exact Finset.sum_congr rfl fun x _ => by rw [if_pos x.isLt]

/-- The largest marked score of a chunk through a fold over the scores with the bottom elsewhere. -/
theorem fold_max_best {n : ℕ} (μ : ℕ → Prop) [DecidablePred μ] (σ : ℕ → ℝ) (r : ℕ) (h : Best μ σ n r) :
    Finset.univ.fold max (⊥ : EReal) (fun x : Fin n => if μ x then (σ x : EReal) else ⊥) = (σ r : EReal) := by
  obtain ⟨h1, h2, h3, h4⟩ := h
  apply le_antisymm
  · refine (Finset.fold_max_le _).2 ⟨bot_le, fun x _ => ?_⟩
    by_cases hx : μ x
    · rw [if_pos hx]; exact EReal.coe_le_coe_iff.2 (h3 x x.isLt hx)
    · rw [if_neg hx]; exact bot_le
  · refine (Finset.le_fold_max _).2 (.inr ⟨⟨r, h1⟩, Finset.mem_univ _, ?_⟩)
    rw [if_pos h2]

theorem fold_max_none {n : ℕ} (μ : ℕ → Prop) [DecidablePred μ] (σ : ℕ → ℝ) (h : ∀ k, k < n → ¬ μ k) :
    Finset.univ.fold max (⊥ : EReal) (fun x : Fin n => if μ x then (σ x : EReal) else ⊥) = ⊥ := by
  refine le_antisymm ((Finset.fold_max_le _).2 ⟨le_refl _, fun x _ => ?_⟩) bot_le
  rw [if_neg (h x x.isLt)]

/-- What a chunk computes of the marked rows: the largest score, and the rank of its first row. -/
theorem chunk_pos {n : ℕ} (μ : ℕ → Prop) (σ : ℕ → ℝ) (B : EReal) (hB : ((n : ℝ) : EReal) ≤ B) {bmax cpos : EReal}
    (hbmax : bmax = Finset.univ.fold max (⊥ : EReal) (fun x : Fin n => if μ x then (σ x : EReal) else ⊥))
    (hcpos : cpos = ∑ x : Fin n, if μ x then (if (((x : ℕ) : ℝ) : EReal) ≤ Finset.univ.fold min (⊤ : EReal)
        (fun x : Fin n => if (if μ x then (σ x : EReal) else ⊥) = bmax then (((x : ℕ) : ℝ) : EReal) else B) then (1 : EReal) else 0) else 0) :
    (bmax = ⊥ ∧ ∀ k, k < n → ¬ μ k) ∨ ∃ r, Best μ σ n r ∧ bmax = (σ r : EReal) ∧ cpos = (cnt μ (r + 1) : EReal) := by
  by_cases hne : ∃ u, u < n ∧ μ u
  · obtain ⟨r, hr⟩ := exists_best μ σ n hne
    have hb : bmax = (σ r : EReal) := hbmax.trans (fold_max_best μ σ r hr)
    refine .inr ⟨r, hr, hb, ?_⟩
    rw [hcpos, fold_min_first (fun x : Fin n => (if μ x then (σ x : EReal) else ⊥) = bmax) ⟨r, hr.1⟩ ?_ ?_ B hB,
      ← sum_count μ (r + 1) hr.1]
    · refine Finset.sum_congr rfl fun x _ => ?_
      by_cases hx : μ x
      · rw [if_pos hx, if_pos hx]
        have : ((((x : ℕ) : ℝ) : EReal) ≤ ((r : ℕ) : ℝ)) ↔ (x : ℕ) < r + 1 := by
          rw [EReal.coe_le_coe_iff, Nat.cast_le]; omega
        by_cases h : (x : ℕ) < r + 1
        · rw [if_pos h, if_pos (this.2 h)]
        · rw [if_neg h, if_neg fun h' => h (this.1 h')]
      · rw [if_neg hx, if_neg hx]
    · rw [if_pos hr.2.1, hb]
    · intro x hx heq
      rw [hb] at heq
      by_cases hm : μ x
      · rw [if_pos hm, EReal.coe_eq_coe_iff] at heq
        exact absurd heq (ne_of_lt (hr.2.2.2 x hx hm))
      · rw [if_neg hm] at heq
        exact absurd heq.symm (EReal.coe_ne_bot _)
  · have hno : ∀ k, k < n → ¬ μ k := fun k hk hm => hne ⟨k, hk, hm⟩
    exact .inl ⟨hbmax.trans (fold_max_none μ σ hno), hno⟩

theorem ereal_neg_min (a b : EReal) : -min a b = max (-a) (-b) := by
  rcases le_total a b with h | h
  · rw [min_eq_left h, max_eq_left (EReal.neg_le_neg_iff.2 h)]
  · rw [min_eq_right h, max_eq_right (EReal.neg_le_neg_iff.2 h)]

/-- The least unmarked score of a chunk, read negated. -/
theorem fold_min_neg {n : ℕ} (μ : ℕ → Prop) (σ : ℕ → ℝ) :
    -(Finset.univ.fold min (⊤ : EReal) (fun x : Fin n => if μ x then ⊤ else (σ x : EReal)))
      = Finset.univ.fold max (⊥ : EReal) (fun x : Fin n => if ¬ μ x then ((-σ x : ℝ) : EReal) else ⊥) := by
  have : ∀ s : Finset (Fin n), -(s.fold min (⊤ : EReal) (fun x : Fin n => if μ x then ⊤ else (σ x : EReal)))
      = s.fold max (⊥ : EReal) (fun x : Fin n => if ¬ μ x then ((-σ x : ℝ) : EReal) else ⊥) := by
    intro s
    induction s using Finset.induction_on with
    | empty => simp
    | insert a s ha ih =>
      rw [Finset.fold_insert ha, Finset.fold_insert ha, ereal_neg_min, ih]
      by_cases h : μ a <;> simp [h]
  exact this _

/-- What a chunk computes of the unmarked rows, the counts taken from those of the marked ones. -/
theorem chunk_neg {n : ℕ} (μ : ℕ → Prop) (σ : ℕ → ℝ) (B : EReal) (hB : ((n : ℝ) : EReal) ≤ B) {bmin cneg : EReal}
    (hbmin : bmin = Finset.univ.fold min (⊤ : EReal) (fun x : Fin n => if μ x then ⊤ else (σ x : EReal)))
    (hcneg : cneg = Finset.univ.fold min (⊤ : EReal)
        (fun x : Fin n => if (if μ x then ⊤ else (σ x : EReal)) = bmin then (((x : ℕ) : ℝ) : EReal) else B) + 1
      - ∑ x : Fin n, if μ x then (if (((x : ℕ) : ℝ) : EReal) ≤ Finset.univ.fold min (⊤ : EReal)
        (fun x : Fin n => if (if μ x then ⊤ else (σ x : EReal)) = bmin then (((x : ℕ) : ℝ) : EReal) else B) then (1 : EReal) else 0) else 0) :
    (-bmin = ⊥ ∧ ∀ k, k < n → ¬ ¬ μ k) ∨ ∃ r, Best (fun k => ¬ μ k) (fun k => -σ k) n r ∧ -bmin = ((-σ r : ℝ) : EReal)
      ∧ cneg = (cnt (fun k => ¬ μ k) (r + 1) : EReal) := by
  have hneg := fold_min_neg (n := n) μ σ
  rw [← hbmin] at hneg
  by_cases hne : ∃ u, u < n ∧ ¬ μ u
  · obtain ⟨r, hr⟩ := exists_best (fun k => ¬ μ k) (fun k => -σ k) n hne
    have hb : -bmin = ((-σ r : ℝ) : EReal) := hneg.trans (fold_max_best (fun k => ¬ μ k) (fun k => -σ k) r hr)
    have hb' : bmin = (σ r : EReal) := by
      rw [← neg_neg bmin, hb, EReal.coe_neg, neg_neg]
    refine .inr ⟨r, hr, hb, ?_⟩
    rw [fold_min_first (fun x : Fin n => (if μ x then ⊤ else (σ x : EReal)) = bmin) ⟨r, hr.1⟩ ?_ ?_ B hB] at hcneg
    · have hs : ∑ x : Fin n, (if μ x then (if (((x : ℕ) : ℝ) : EReal) ≤ ((r : ℕ) : ℝ) then (1 : EReal) else 0) else 0)
          = (cnt μ (r + 1) : EReal) := by
        rw [← sum_count μ (r + 1) hr.1]
        refine Finset.sum_congr rfl fun x _ => ?_
        by_cases hx : μ x
        · rw [if_pos hx, if_pos hx]
          have : ((((x : ℕ) : ℝ) : EReal) ≤ ((r : ℕ) : ℝ)) ↔ (x : ℕ) < r + 1 := by
            rw [EReal.coe_le_coe_iff, Nat.cast_le]; omega
          by_cases h : (x : ℕ) < r + 1
          · rw [if_pos h, if_pos (this.2 h)]
          · rw [if_neg h, if_neg fun h' => h (this.1 h')]
        · rw [if_neg hx, if_neg hx]
      rw [hcneg]
      rw [hs]
      have h2 := cnt_not μ (r + 1)
      have h3 : ((cnt μ (r + 1) : ℕ) : EReal) = (((cnt μ (r + 1) : ℕ) : ℝ) : EReal) := by norm_cast
      have h4 : ((cnt (fun k => ¬ μ k) (r + 1) : ℕ) : EReal) = (((cnt (fun k => ¬ μ k) (r + 1) : ℕ) : ℝ) : EReal) := by norm_cast
      rw [h3, h4]
      have h5 : (1 : EReal) = ((1 : ℝ) : EReal) := rfl
      rw [h5, ← EReal.coe_add, ← EReal.coe_sub, EReal.coe_eq_coe_iff]
      have h6 : ((cnt μ (r + 1) : ℕ) : ℝ) + ((cnt (fun k => ¬ μ k) (r + 1) : ℕ) : ℝ) = (r : ℝ) + 1 := by exact_mod_cast h2
      linarith
    · rw [if_neg hr.2.1, hb']
    · intro x hx heq
      rw [hb'] at heq
      by_cases hm : μ x
      · rw [if_pos hm] at heq
        exact absurd heq.symm (EReal.coe_ne_top _)
      · rw [if_neg hm, EReal.coe_eq_coe_iff] at heq
        have := hr.2.2.2 x hx hm
        simp only at this
        linarith
  · have hno : ∀ k, k < n → ¬ ¬ μ k := fun k hk hm => hne ⟨k, hk, hm⟩
    exact .inl ⟨hneg.trans (fold_max_none (fun k => ¬ μ k) (fun k => -σ k) hno), hno⟩

end Cert.Lane

end
-- ==== Proof.Val.Consts.lean ====
module

public import Idealize.ShloMosaic.PureOps.Ideal

@[expose] public section

noncomputable section

namespace Cert.Consts

open Idealize.ShloMosaic

theorem c_top : Ideal.ofBits .f32 0x7F800000#32 = (⊤ : EReal) := by simp [Ideal.ofBits, Ideal.ieee]
theorem c_bot : Ideal.ofBits .f32 0xFF800000#32 = (⊥ : EReal) := by simp [Ideal.ofBits, Ideal.ieee]
theorem c_half : Ideal.ofBits .f32 0x3F000000#32 = ((1 / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_256 : Ideal.ofBits .f32 0x43800000#32 = ((256 : ℝ) : EReal) := by
  simp [Ideal.ofBits, Ideal.ieee, -EReal.coe_mul]; norm_num
theorem c_8192 : Ideal.ofBits .f32 0x46000000#32 = ((8192 : ℝ) : EReal) := by
  simp [Ideal.ofBits, Ideal.ieee, -EReal.coe_mul]; norm_num
theorem c_big : ((256 : ℝ) : EReal) ≤ Ideal.ofBits .f32 0x7F61B1E6#32 := by
  simp [Ideal.ofBits, Ideal.ieee, -EReal.coe_mul]; norm_num

/-- The clipping bound. -/
def eps : ℝ := (9223372 : ℝ) * (2 : ℝ) ^ (-63 : ℤ)
theorem eps_pos : 0 < eps := by unfold eps; positivity
theorem c_eps : Ideal.ofBits .f32 0x2B8CBCCC#32 = (eps : EReal) := by
  unfold eps
  simp [Ideal.ofBits, Ideal.ieee, -EReal.coe_mul]

/-- The margin. -/
def margin : ℝ := (10066330 : ℝ) * (2 : ℝ) ^ (-25 : ℤ)
theorem c_margin : Ideal.ofBits .f32 0x3E99999A#32 = (margin : EReal) := by
  unfold margin
  simp [Ideal.ofBits, Ideal.ieee, -EReal.coe_mul]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Consts

end
-- ==== Proof.Val.ChunkAt.lean ====
module

public import proofs.«01_k».proof.Proof.KI.MineStep
public import proofs.«01_k».proof.Proof.Val.Lane
public import proofs.«01_k».proof.Proof.Val.Consts
public import Idealize.ShloMosaic.Lib.Pointwise
public import Idealize.ShloMosaic.PureOps.Ideal

@[expose] public section

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand
open Cert.Lane Cert.Consts

variable (a : Vec Ideal S2048x256 .bf16) (ta : Vec Ideal S1x1x2048 .i32) (b : Vec Ideal S256x256 .bf16)
  (tb : Vec Ideal S1x256x1 .i32) (sq : Vec Ideal S1x256x1 .f32) (st : MineSt Ideal) (l : Fin 2048)

theorem s_at (x : Fin 256) : k1_pay11 a b sq (ix2 x l) = sq (ix3 0 x 0) - ∑ k : Fin 256, b (ix2 x k) * a (ix2 l k) := by
  pointwise [k1_pay11, k1_pay9]

theorem m_at (x : Fin 256) : k1_pay12 (F := Ideal) ta tb (ix2 x l) = IntOp.cmpi .eq (tb (ix3 0 x 0)) (ta (ix3 0 0 l)) := by
  pointwise [k1_pay12, k1_pay10]

theorem cmpi_eq_one (x y : BitVec 32) : IntOp.cmpi .eq x y = 1#1 ↔ x = y := by
  by_cases h : x = y
  · simp [IntOp.cmpi, h]
  · have h' : (x == y) = false := by simpa using h
    simp [IntOp.cmpi, h, h']

theorem pos_at (x : Fin 256) : k1_pay13 a ta b tb sq (ix2 x l)
    = Scalar.select (k1_pay12 (F := Ideal) ta tb (ix2 x l)) (k1_pay11 a b sq (ix2 x l)) (Ideal.ofBits .f32 0xFF800000#32) := by
  pointwise [k1_pay13]

theorem bmax_at (p : FVec Ideal S256x2048 .f32) : k1_pay15 p (ix2 0 l)
    = Finset.univ.fold max (Ideal.ofBits .f32 0xFF800000#32) (fun x : Fin 256 => p (ix2 x l)) := by
  pointwise [k1_pay15]

theorem mx_at : (mineChunk a ta b tb sq st).mx (ix2 0 l)
    = if st.mx (ix2 0 l) < k1_pay15 (k1_pay13 a ta b tb sq) (ix2 0 l) then k1_pay15 (k1_pay13 a ta b tb sq) (ix2 0 l) else st.mx (ix2 0 l) := by
  unfold mineChunk
  dsimp only
  pointwise [k1_pay25, k1_pay23]

theorem row_cast (x : Fin 256) : FloatOps.sitofp (F := Ideal) FTy.f32 (BitVec.ofNat 32 (x : ℕ)) = (((x : ℕ) : ℝ) : EReal) := by
  have h : (BitVec.ofNat 32 (x : ℕ)).toInt = (x : ℕ) := by
    rw [BitVec.toInt_eq_toNat_of_lt] <;> simp <;> omega
  show (((BitVec.ofNat 32 (x : ℕ)).toInt : ℝ) : EReal) = _
  rw [h]; simp

theorem cpos_at (m : IVec S256x2048 1) (p : FVec Ideal S256x2048 .f32) : k1_pay18 m p (ix2 0 l)
    = ∑ x : Fin 256, Scalar.select (m (ix2 x l)) (if (((x : ℕ) : ℝ) : EReal) ≤ Finset.univ.fold min (Ideal.ofBits .f32 0x7F800000#32)
        (fun x : Fin 256 => if p (ix2 x l) = k1_pay15 p (ix2 0 l) then (((x : ℕ) : ℝ) : EReal) else Ideal.ofBits .f32 0x7F61B1E6#32) then (1 : EReal) else 0) 0 := by
  pointwise [k1_pay18, k1_pay17]
  simp only [row_cast]

theorem cj_at : (mineChunk a ta b tb sq st).cj (ix2 0 l)
    = if st.mx (ix2 0 l) < k1_pay15 (k1_pay13 a ta b tb sq) (ix2 0 l) then st.tp (ix2 0 l) + k1_pay18 (k1_pay12 (F := Ideal) ta tb) (k1_pay13 a ta b tb sq) (ix2 0 l)
      else st.cj (ix2 0 l) := by
  unfold mineChunk
  dsimp only
  pointwise [k1_pay24, k1_pay23]

theorem bp_at (m : IVec S256x2048 1) : k1_pay22 (F := Ideal) m k1_pay20 k1_pay21 (ix2 0 l)
    = ∑ x : Fin 256, Scalar.select (m (ix2 x l)) (1 : EReal) 0 := by
  pointwise [k1_pay22, k1_pay20, k1_pay21]

theorem tp_at : (mineChunk a ta b tb sq st).tp (ix2 0 l)
    = st.tp (ix2 0 l) + k1_pay22 (F := Ideal) (k1_pay12 (F := Ideal) ta tb) k1_pay20 k1_pay21 (ix2 0 l) := by
  unfold mineChunk
  dsimp only
  pointwise [k1_pay29]

theorem tn_at : (mineChunk a ta b tb sq st).tn (ix2 0 l)
    = st.tn (ix2 0 l) + (Ideal.ofBits .f32 0x43800000#32 - k1_pay22 (F := Ideal) (k1_pay12 (F := Ideal) ta tb) k1_pay20 k1_pay21 (ix2 0 l)) := by
  unfold mineChunk
  dsimp only
  pointwise [k1_pay30]

theorem neg_at (s : FVec Ideal S256x2048 .f32) (m : IVec S256x2048 1) (c : Ideal .f32) (x : Fin 256) :
    k1_pay14 s m c (ix2 x l) = Scalar.select (m (ix2 x l)) c (s (ix2 x l)) := by
  pointwise [k1_pay14]

theorem bmin_at (s : FVec Ideal S256x2048 .f32) (m : IVec S256x2048 1) (c : Ideal .f32) : k1_pay16 s m c (ix2 0 l)
    = Finset.univ.fold min (Ideal.ofBits .f32 0x7F800000#32) (fun x : Fin 256 => k1_pay14 s m c (ix2 x l)) := by
  pointwise [k1_pay16]

theorem cneg_at (s : FVec Ideal S256x2048 .f32) (m : IVec S256x2048 1) (c : Ideal .f32) : k1_pay19 s m c (ix2 0 l)
    = (Finset.univ.fold min (Ideal.ofBits .f32 0x7F800000#32)
        (fun x : Fin 256 => if k1_pay14 s m c (ix2 x l) = k1_pay16 s m c (ix2 0 l) then (((x : ℕ) : ℝ) : EReal) else Ideal.ofBits .f32 0x7F61B1E6#32) + 1)
      - ∑ x : Fin 256, Scalar.select (m (ix2 x l)) (if (((x : ℕ) : ℝ) : EReal) ≤ Finset.univ.fold min (Ideal.ofBits .f32 0x7F800000#32)
        (fun x : Fin 256 => if k1_pay14 s m c (ix2 x l) = k1_pay16 s m c (ix2 0 l) then (((x : ℕ) : ℝ) : EReal) else Ideal.ofBits .f32 0x7F61B1E6#32) then (1 : EReal) else 0) 0 := by
  pointwise [k1_pay19, k1_pay17]
  simp only [row_cast]

theorem mn_at : (mineChunk a ta b tb sq st).mn (ix2 0 l)
    = if k1_pay16 (k1_pay11 a b sq) (k1_pay12 (F := Ideal) ta tb) (Ideal.ofBits .f32 0x7F800000#32) (ix2 0 l) < st.mn (ix2 0 l)
      then k1_pay16 (k1_pay11 a b sq) (k1_pay12 (F := Ideal) ta tb) (Ideal.ofBits .f32 0x7F800000#32) (ix2 0 l) else st.mn (ix2 0 l) := by
  unfold mineChunk
  dsimp only
  pointwise [k1_pay28, k1_pay26]

theorem ck_at : (mineChunk a ta b tb sq st).ck (ix2 0 l)
    = if k1_pay16 (k1_pay11 a b sq) (k1_pay12 (F := Ideal) ta tb) (Ideal.ofBits .f32 0x7F800000#32) (ix2 0 l) < st.mn (ix2 0 l)
      then st.tn (ix2 0 l) + k1_pay19 (k1_pay11 a b sq) (k1_pay12 (F := Ideal) ta tb) (Ideal.ofBits .f32 0x7F800000#32) (ix2 0 l) else st.ck (ix2 0 l) := by
  unfold mineChunk
  dsimp only
  pointwise [k1_pay27, k1_pay26]

/-- What lane `l` holds after `q` columns: of the rows of its label the farthest, of the others the nearest. -/
def LaneInv (μ : ℕ → Prop) (σ : ℕ → ℝ) (q : ℕ) (st : MineSt Ideal) (l : Fin 2048) : Prop :=
  Inv μ σ q (st.mx (ix2 0 l)) (st.cj (ix2 0 l)) (st.tp (ix2 0 l))
    ∧ Inv (fun u => ¬ μ u) (fun u => -σ u) q (-(show EReal from st.mn (ix2 0 l))) (st.ck (ix2 0 l)) (st.tn (ix2 0 l))

open Classical in
theorem chunk_inv (μ : ℕ → Prop) (σ : ℕ → ℝ) (q : ℕ)
    (hs : ∀ x : Fin 256, (sq (ix3 0 x 0) : EReal) - ∑ k : Fin 256, (b (ix2 x k) : EReal) * a (ix2 l k) = (σ (q + x) : EReal))
    (hm : ∀ x : Fin 256, (tb (ix3 0 x 0) : BitVec 32) = ta (ix3 0 0 l) ↔ μ (q + x)) (hI : LaneInv μ σ q st l) :
    LaneInv μ σ (q + 256) (mineChunk a ta b tb sq st) l := by
  have hs' : ∀ x : Fin 256, k1_pay11 a b sq (ix2 x l) = (σ (q + x) : EReal) := fun x => (s_at a b sq l x).trans (hs x)
  have hsel : ∀ (x : Fin 256) (u v : EReal), Scalar.select (k1_pay12 (F := Ideal) ta tb (ix2 x l)) u v = if μ (q + x) then u else v := by
    intro x u v
    rw [m_at]
    unfold Scalar.select
    have := (cmpi_eq_one (tb (ix3 0 x 0)) (ta (ix3 0 0 l))).trans (hm x)
    by_cases h : μ (q + x)
    · rw [if_pos h]; exact if_pos (this.2 h)
    · rw [if_neg h]; exact if_neg fun h' => h (this.1 h')
  have hp : ∀ x : Fin 256, k1_pay13 a ta b tb sq (ix2 x l) = if μ (q + x) then (σ (q + x) : EReal) else ⊥ := by
    intro x; rw [pos_at, hsel, hs', c_bot]
  have hn : ∀ x : Fin 256, k1_pay14 (k1_pay11 a b sq) (k1_pay12 (F := Ideal) ta tb) (Ideal.ofBits .f32 0x7F800000#32) (ix2 x l)
      = if μ (q + x) then ⊤ else (σ (q + x) : EReal) := by
    intro x; rw [neg_at, hsel, hs', c_top]
  have hbig : (((256 : ℕ) : ℝ) : EReal) ≤ Ideal.ofBits .f32 0x7F61B1E6#32 := by
    have := c_big
    simpa using this
  have hbp : k1_pay22 (F := Ideal) (k1_pay12 (F := Ideal) ta tb) k1_pay20 k1_pay21 (ix2 0 l) = (cnt (fun k => μ (q + k)) 256 : EReal) := by
    rw [bp_at]
    simp only [hsel]
    exact sum_count_all (fun k => μ (q + k))
  have hbn : (Ideal.ofBits .f32 0x43800000#32 : EReal) - k1_pay22 (F := Ideal) (k1_pay12 (F := Ideal) ta tb) k1_pay20 k1_pay21 (ix2 0 l)
      = (cnt (fun k => ¬ μ (q + k)) 256 : EReal) := by
    rw [hbp, c_256]
    have h2 := cnt_not (fun k => μ (q + k)) 256
    have h3 : ((cnt (fun k => μ (q + k)) 256 : ℕ) : EReal) = (((cnt (fun k => μ (q + k)) 256 : ℕ) : ℝ) : EReal) := by norm_cast
    have h4 : ((cnt (fun k => ¬ μ (q + k)) 256 : ℕ) : EReal) = (((cnt (fun k => ¬ μ (q + k)) 256 : ℕ) : ℝ) : EReal) := by norm_cast
    rw [h3, h4, ← EReal.coe_sub, EReal.coe_eq_coe_iff]
    have h6 : ((cnt (fun k => μ (q + k)) 256 : ℕ) : ℝ) + ((cnt (fun k => ¬ μ (q + k)) 256 : ℕ) : ℝ) = 256 := by exact_mod_cast h2
    linarith
  have cp := chunk_pos (n := 256) (fun k => μ (q + k)) (fun k => σ (q + k)) _ hbig
    (bmax := k1_pay15 (k1_pay13 a ta b tb sq) (ix2 0 l)) (cpos := k1_pay18 (k1_pay12 (F := Ideal) ta tb) (k1_pay13 a ta b tb sq) (ix2 0 l))
    (by rw [bmax_at, c_bot]; simp only [hp])
    (by rw [cpos_at, c_top]; simp only [hp, hsel])
  have cn := chunk_neg (n := 256) (fun k => μ (q + k)) (fun k => σ (q + k)) _ hbig
    (bmin := k1_pay16 (k1_pay11 a b sq) (k1_pay12 (F := Ideal) ta tb) (Ideal.ofBits .f32 0x7F800000#32) (ix2 0 l))
    (cneg := k1_pay19 (k1_pay11 a b sq) (k1_pay12 (F := Ideal) ta tb) (Ideal.ofBits .f32 0x7F800000#32) (ix2 0 l))
    (by rw [bmin_at]; simp only [hn]; rw [c_top])
    (by rw [cneg_at]; simp only [hn, hsel]; rw [c_top])
  obtain ⟨hI1, hI2⟩ := hI
  refine ⟨?_, ?_⟩
  · have := Inv.step hI1 (w := 256) hbp cp
    rw [mx_at, cj_at, tp_at]
    exact this
  · have := Inv.step hI2 (w := 256) hbn cn
    rw [mn_at, ck_at, tn_at]
    by_cases h : k1_pay16 (k1_pay11 a b sq) (k1_pay12 (F := Ideal) ta tb) (Ideal.ofBits .f32 0x7F800000#32) (ix2 0 l) < st.mn (ix2 0 l)
    · have h' := EReal.neg_lt_neg_iff.2 h
      rw [if_pos h', if_pos h'] at this
      rw [if_pos h, if_pos h]
      exact this
    · have h' := fun h' => h (EReal.neg_lt_neg_iff.1 h')
      rw [if_neg h', if_neg h'] at this
      rw [if_neg h, if_neg h]
      exact this

/-- The lanes at the start. -/
theorem init_inv (μ : ℕ → Prop) (σ : ℕ → ℝ) : LaneInv μ σ 0 (mineInit (F := Ideal)) l := by
  have h0 : (cnt μ 0 : EReal) = 0 := by simp [cnt]
  have h0' : (cnt (fun u => ¬ μ u) 0 : EReal) = 0 := by simp [cnt]
  refine ⟨⟨?_, .inl ⟨?_, ?_, fun u hu => absurd hu (by omega)⟩⟩, ⟨?_, .inl ⟨?_, ?_, fun u hu => absurd hu (by omega)⟩⟩⟩
  · rw [h0]; unfold mineInit; dsimp only; pointwise [k1_pay7]
  · rw [← c_bot]; unfold mineInit; dsimp only; pointwise [k1_pay3]
  · unfold mineInit; dsimp only; pointwise [k1_pay5]
  · rw [h0']; unfold mineInit; dsimp only; pointwise [k1_pay8]
  · have : (mineInit (F := Ideal)).mn (ix2 0 l) = (⊤ : EReal) := by
      rw [← c_top]; unfold mineInit; dsimp only; pointwise [k1_pay4]
    show -(show EReal from (mineInit (F := Ideal)).mn (ix2 0 l)) = ⊥
    rw [this]; rfl
  · unfold mineInit; dsimp only; pointwise [k1_pay6]

end Cert.KernelIdeal.Val

end
-- ==== Proof.Val.Spec.lean ====
module

public import proofs.«01_k».proof.Proof.Val.Lane
public import proofs.«01_k».proof.Proof.Val.Consts

@[expose] public section

noncomputable section

namespace Cert.Spec

open Cert.Lane Cert.Consts

variable (x : ℕ → Fin 256 → ℝ) (lab : ℕ → BitVec 32)

/-- A row's squared length. -/
def S (i : ℕ) : ℝ := ∑ k, x i k * x i k
/-- The product of two rows. -/
def P (i j : ℕ) : ℝ := ∑ k, x i k * x j k
/-- The squared distance of two rows. -/
def D2 (i j : ℕ) : ℝ := S x i + S x j - 2 * P x i j
/-- The clipped distance of two rows. -/
def dist (i j : ℕ) : ℝ := Real.sqrt (max eps (D2 x i j))
/-- What the mining orders the columns of row `i` by. -/
def sg (i u : ℕ) : ℝ := S x u / 2 - P x u i
/-- Rows of the label of row `i`. -/
def mu (i u : ℕ) : Prop := lab u = lab i

theorem P_comm (i j : ℕ) : P x i j = P x j i := by
  unfold P; exact Finset.sum_congr rfl fun k _ => mul_comm _ _

theorem D2_eq_sg (i u : ℕ) : D2 x i u = S x i + 2 * sg x i u := by
  unfold D2 sg; rw [P_comm x i u]; ring

theorem D2_nonneg (i j : ℕ) : 0 ≤ D2 x i j := by
  have : D2 x i j = ∑ k, (x i k - x j k) ^ 2 := by
    unfold D2 S P
    rw [Finset.mul_sum, ← Finset.sum_add_distrib, ← Finset.sum_sub_distrib]
    exact Finset.sum_congr rfl fun k _ => by ring
  rw [this]; positivity

open Classical in
/-- How many of the columns in `μ` there are up to and with the best one. -/
def rank (μ : ℕ → Prop) (σ : ℕ → ℝ) : ℕ := if h : ∃ p, Best μ σ 8192 p then cnt μ (h.choose + 1) else 0

theorem rank_of_best {μ : ℕ → Prop} {σ : ℕ → ℝ} {p : ℕ} (h : Best μ σ 8192 p) : rank μ σ = cnt μ (p + 1) := by
  have h' : ∃ p, Best μ σ 8192 p := ⟨p, h⟩
  unfold rank
  rw [dif_pos h', Best.unique h'.choose_spec h]

theorem rank_of_none {μ : ℕ → Prop} {σ : ℕ → ℝ} (h : ∀ u, u < 8192 → ¬ μ u) : rank μ σ = 0 := by
  unfold rank
  rw [dif_neg]
  rintro ⟨p, hp⟩
  exact h p hp.1 hp.2.1

theorem rank_le (μ : ℕ → Prop) (σ : ℕ → ℝ) : rank μ σ ≤ 8192 := by
  by_cases h : ∃ p, Best μ σ 8192 p
  · obtain ⟨p, hp⟩ := h
    rw [rank_of_best hp]
    exact (cnt_le μ _).trans hp.1
  · unfold rank; rw [dif_neg h]; omega

/-- The lanes' invariant after the last column fixes the count. -/
theorem inv_rank {μ : ℕ → Prop} {σ : ℕ → ℝ} {mx cj tp : EReal} (h : Inv μ σ 8192 mx cj tp) : cj = ((rank μ σ : ℝ) : EReal) := by
  rcases h.2 with ⟨_, h0, hn⟩ | ⟨p, hp, _, hc⟩
  · rw [rank_of_none hn, h0]; simp
  · rw [rank_of_best hp, hc]; norm_cast

/-- The ranks of the farthest row of the same label and of the nearest of another. -/
def rj (i : ℕ) : ℕ := rank (mu lab i) (sg x i)
def rk (i : ℕ) : ℕ := rank (fun u => ¬ mu lab i u) (fun u => -sg x i u)

/-- A rank less one as a row, the one before the first being the last. -/
def col (n : ℕ) : ℕ := if n = 0 then 8191 else n - 1

theorem col_lt {n : ℕ} (h : n ≤ 8192) : col n < 8192 := by unfold col; split <;> omega

/-- One row's two terms. -/
def rankLoss (i : ℕ) : ℝ := max (dist x i (col (rj x lab i)) - dist x i (col (rk x lab i)) + margin) 0
def refLoss (i : ℕ) : ℝ := |dist x i (col (rk x lab i)) - dist x (col (rj x lab i)) (col (rk x lab i))|

/-- The loss. -/
def loss : ℝ := (∑ i : Fin 8192, rankLoss x lab i) / 8192 + (∑ i : Fin 8192, refLoss x lab i) / 8192

end Cert.Spec

end
-- ==== Proof.Val.Mine.lean ====
module

public import proofs.«01_k».proof.Proof.Val.ChunkAt
public import proofs.«01_k».proof.Proof.Val.Spec
public import proofs.«01_k».proof.Proof.KI.Dat1
public import Idealize.ShloMosaic.Lib.Pipeline.ValueKit

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand
open Cert.Lane Cert.Consts

section Rows

variable (x : Vec Ideal S1024x256 .bf16)
theorem rowsB0_at (r : Fin 256) (k : Fin 256) : rowsB0 x (ix2 r k) = x (ix2 (⟨r, by omega⟩ : Fin 1024) k) := by
  refine congrArg x (funext fun a => ?_); fin_cases a <;> apply Fin.ext <;> simp [LoadRect.idx]
theorem rowsB1_at (r : Fin 256) (k : Fin 256) : rowsB1 x (ix2 r k) = x (ix2 (⟨256 + r, by omega⟩ : Fin 1024) k) := by
  refine congrArg x (funext fun a => ?_); fin_cases a <;> apply Fin.ext <;> simp [LoadRect.idx]
theorem rowsB2_at (r : Fin 256) (k : Fin 256) : rowsB2 x (ix2 r k) = x (ix2 (⟨512 + r, by omega⟩ : Fin 1024) k) := by
  refine congrArg x (funext fun a => ?_); fin_cases a <;> apply Fin.ext <;> simp [LoadRect.idx]
theorem rowsB3_at (r : Fin 256) (k : Fin 256) : rowsB3 x (ix2 r k) = x (ix2 (⟨768 + r, by omega⟩ : Fin 1024) k) := by
  refine congrArg x (funext fun a => ?_); fin_cases a <;> apply Fin.ext <;> simp [LoadRect.idx]

variable {α : Type} (y : S1x1024x1.Idx → α)
theorem rowsC0_at (r : Fin 256) : rowsC0 y (ix3 0 r 0) = y (ix3 0 (⟨r, by omega⟩ : Fin 1024) 0) := by
  refine congrArg y (funext fun a => ?_); fin_cases a <;> apply Fin.ext <;> simp [LoadRect.idx]
theorem rowsC1_at (r : Fin 256) : rowsC1 y (ix3 0 r 0) = y (ix3 0 (⟨256 + r, by omega⟩ : Fin 1024) 0) := by
  refine congrArg y (funext fun a => ?_); fin_cases a <;> apply Fin.ext <;> simp [LoadRect.idx]
theorem rowsC2_at (r : Fin 256) : rowsC2 y (ix3 0 r 0) = y (ix3 0 (⟨512 + r, by omega⟩ : Fin 1024) 0) := by
  refine congrArg y (funext fun a => ?_); fin_cases a <;> apply Fin.ext <;> simp [LoadRect.idx]
theorem rowsC3_at (r : Fin 256) : rowsC3 y (ix3 0 r 0) = y (ix3 0 (⟨768 + r, by omega⟩ : Fin 1024) 0) := by
  refine congrArg y (funext fun a => ?_); fin_cases a <;> apply Fin.ext <;> simp [LoadRect.idx]

end Rows

/-- One block of 1024 columns. -/
theorem step_inv (x0 : Vec Ideal S2048x256 .bf16) (x1 : Vec Ideal S1024x256 .bf16) (x2 : Vec Ideal S1x1024x1 .f32) (x3 : Vec Ideal S1x1x2048 .i32)
    (x4 : Vec Ideal S1x1024x1 .i32) (st : MineSt Ideal) (l : Fin 2048) (μ : ℕ → Prop) (σ : ℕ → ℝ) (q : ℕ)
    (hs : ∀ r : Fin 1024, (x2 (ix3 0 r 0) : EReal) - ∑ k : Fin 256, (x1 (ix2 r k) : EReal) * x0 (ix2 l k) = (σ (q + r) : EReal))
    (hm : ∀ r : Fin 1024, (x4 (ix3 0 r 0) : BitVec 32) = x3 (ix3 0 0 l) ↔ μ (q + r)) (hI : LaneInv μ σ q st l) :
    LaneInv μ σ (q + 1024) (mineStep x0 x1 x2 x3 x4 st) l := by
  unfold mineStep
  have h0 := chunk_inv x0 x3 (rowsB0 x1) (rowsC0 x4) (rowsC0 x2) st l μ σ q
    (fun r => by rw [rowsC0_at]; simp only [rowsB0_at]; exact hs ⟨r, by omega⟩) (fun r => by rw [rowsC0_at]; exact hm ⟨r, by omega⟩) hI
  have h1 := chunk_inv x0 x3 (rowsB1 x1) (rowsC1 x4) (rowsC1 x2) _ l μ σ (q + 256)
    (fun r => by rw [rowsC1_at]; simp only [rowsB1_at]; rw [add_assoc]; exact hs ⟨256 + r, by omega⟩)
    (fun r => by rw [rowsC1_at, add_assoc]; exact hm ⟨256 + r, by omega⟩) h0
  have h2 := chunk_inv x0 x3 (rowsB2 x1) (rowsC2 x4) (rowsC2 x2) _ l μ σ (q + 512)
    (fun r => by rw [rowsC2_at]; simp only [rowsB2_at]; rw [add_assoc]; exact hs ⟨512 + r, by omega⟩)
    (fun r => by rw [rowsC2_at, add_assoc]; exact hm ⟨512 + r, by omega⟩) h1
  exact chunk_inv x0 x3 (rowsB3 x1) (rowsC3 x4) (rowsC3 x2) _ l μ σ (q + 768)
    (fun r => by rw [rowsC3_at]; simp only [rowsB3_at]; rw [add_assoc]; exact hs ⟨768 + r, by omega⟩)
    (fun r => by rw [rowsC3_at, add_assoc]; exact hm ⟨768 + r, by omega⟩) h2

theorem idx1 : ∀ t : Fin cfg1.N, win1_0.index t = ![t.val / 8, 0] ∧ win1_1.index t = ![t.val % 8, 0] ∧ win1_2.index t = ![t.val % 8, 0, 0]
    ∧ win1_3.index t = ![t.val / 8, 0, 0] ∧ win1_4.index t = ![t.val % 8, 0, 0] ∧ win1_5.index t = ![t.val / 8, 0, 0] ∧ win1_6.index t = ![t.val / 8, 0, 0]
    ∧ t.val / 8 < 4 :=
  (by decide +kernel : ∀ t : Fin grid1.N, _)

section Blocks

variable (V : (c : Dev nD) → (b : Ref sig .tc) → Buf (Elt Ideal) ((c : Thread nD τ).loc b)) (c : Dev nD) (t : Fin cfg1.N)

theorem blk1_0 (A : Vec Ideal S8192x256 .bf16) (h : V c main_v0_0 = A) (l : Fin 2048) (k : Fin 256) :
    iblk1 V c 0 t (ix2 l k) = A (ix2 (⟨2048 * (t.val / 8) + l, by have := (idx1 t).2.2.2.2.2.2.2; omega⟩ : Fin 8192) k) := by
  subst h
  blk_ext [iblk1, idx1 t]
theorem blk1_1 (A : Vec Ideal S8192x256 .bf16) (h : V c main_v0_0 = A) (r : Fin 1024) (k : Fin 256) :
    iblk1 V c 1 t (ix2 r k) = A (ix2 (⟨1024 * (t.val % 8) + r, by omega⟩ : Fin 8192) k) := by
  subst h
  blk_ext [iblk1, idx1 t]
theorem blk1_2 (A : Vec Ideal S8x1024x1 .f32) (h : V c main_v3 = A) (r : Fin 1024) :
    iblk1 V c 2 t (ix3 0 r 0) = A (ix3 (⟨t.val % 8, by omega⟩ : Fin 8) r 0) := by
  subst h
  blk_ext [iblk1, idx1 t]
theorem blk1_3 (A : Vec Ideal S4x1x2048 .i32) (h : V c main_v1 = A) (l : Fin 2048) :
    iblk1 V c 3 t (ix3 0 0 l) = A (ix3 (⟨t.val / 8, (idx1 t).2.2.2.2.2.2.2⟩ : Fin 4) 0 l) := by
  subst h
  blk_ext [iblk1, idx1 t]
theorem blk1_4 (A : Vec Ideal S8x1024x1 .i32) (h : V c main_v2 = A) (r : Fin 1024) :
    iblk1 V c 4 t (ix3 0 r 0) = A (ix3 (⟨t.val % 8, by omega⟩ : Fin 8) r 0) := by
  subst h
  blk_ext [iblk1, idx1 t]

/-- What the mining call finds in its operands: real rows, their half squared lengths and the labels. -/
structure Fed (x : ℕ → Fin 256 → ℝ) (lab : ℕ → BitVec 32) : Prop where
  rows : ∃ A : Vec Ideal S8192x256 .bf16, V c main_v0_0 = A ∧ ∀ (i : Fin 8192) (k : Fin 256), (A (ix2 i k) : EReal) = (x i k : EReal)
  sq : ∃ A : Vec Ideal S8x1024x1 .f32, V c main_v3 = A ∧ ∀ (a : Fin 8) (r : Fin 1024), (A (ix3 a r 0) : EReal) = ((Spec.S x (1024 * a + r) / 2 : ℝ) : EReal)
  lanes : ∃ A : Vec Ideal S4x1x2048 .i32, V c main_v1 = A ∧ ∀ (a : Fin 4) (l : Fin 2048), (A (ix3 a 0 l) : BitVec 32) = lab (2048 * a + l)
  cols : ∃ A : Vec Ideal S8x1024x1 .i32, V c main_v2 = A ∧ ∀ (a : Fin 8) (r : Fin 1024), (A (ix3 a r 0) : BitVec 32) = lab (1024 * a + r)

variable {V c} {x : ℕ → Fin 256 → ℝ} {lab : ℕ → BitVec 32}

/-- One grid point, from any state. -/
theorem point_inv (hF : Fed V c x lab) (l : Fin 2048) (st : MineSt Ideal)
    (hI : LaneInv (Spec.mu lab (2048 * (t.val / 8) + l)) (Spec.sg x (2048 * (t.val / 8) + l)) (1024 * (t.val % 8)) st l) :
    LaneInv (Spec.mu lab (2048 * (t.val / 8) + l)) (Spec.sg x (2048 * (t.val / 8) + l)) (1024 * (t.val % 8) + 1024)
      (mineStep (iblk1 V c 0 t) (iblk1 V c 1 t) (iblk1 V c 2 t) (iblk1 V c 3 t) (iblk1 V c 4 t) st) l := by
  obtain ⟨A, hA, hA'⟩ := hF.rows
  obtain ⟨B, hB, hB'⟩ := hF.sq
  obtain ⟨C, hC, hC'⟩ := hF.lanes
  obtain ⟨D, hD, hD'⟩ := hF.cols
  refine step_inv _ _ _ _ _ st l _ _ _ (fun r => ?_) (fun r => ?_) hI
  · have e0 := blk1_0 V c t A hA l
    have e1 := blk1_1 V c t A hA r
    have e2 := blk1_2 V c t B hB r
    rw [show ((iblk1 V c 2 t) (ix3 0 r 0) : EReal) = _ from e2.trans (hB' _ _)]
    have e3 : ∀ k : Fin 256, (show EReal from (iblk1 V c 1 t) (ix2 r k)) * (show EReal from (iblk1 V c 0 t) (ix2 l k))
        = ((x (1024 * (t.val % 8) + r) k * x (2048 * (t.val / 8) + l) k : ℝ) : EReal) := fun k => by
      rw [show (show EReal from (iblk1 V c 1 t) (ix2 r k)) = _ from (e1 k).trans (hA' _ _), show (show EReal from (iblk1 V c 0 t) (ix2 l k)) = _ from (e0 k).trans (hA' _ _), ← EReal.coe_mul]
    rw [Finset.sum_congr rfl fun k _ => e3 k, ← coe_sum, ← EReal.coe_sub]
    rfl
  · rw [show ((iblk1 V c 4 t) (ix3 0 r 0) : BitVec 32) = _ from (blk1_4 V c t D hD r).trans (hD' _ _),
      show ((iblk1 V c 3 t) (ix3 0 0 l) : BitVec 32) = _ from (blk1_3 V c t C hC l).trans (hC' _ _)]
    rfl

/-- The lanes after grid point `n`. -/
theorem mine_inv (hF : Fed V c x lab) (l : Fin 2048) : ∀ (n : ℕ) (hn : n < cfg1.N),
    LaneInv (Spec.mu lab (2048 * (n / 8) + l)) (Spec.sg x (2048 * (n / 8) + l)) (1024 * (n % 8) + 1024) (mineAt V c n hn) l := by
  intro n
  induction n with
  | zero =>
    intro hn
    rw [mineAt_first V c ⟨0, hn⟩ rfl]
    exact point_inv ⟨0, hn⟩ hF l _ (init_inv l _ _)
  | succ n ih =>
    intro hn
    by_cases h : (n + 1) % 8 = 0
    · rw [mineAt_first V c ⟨n + 1, hn⟩ h]
      refine point_inv ⟨n + 1, hn⟩ hF l _ ?_
      show LaneInv _ _ (1024 * ((n + 1) % 8)) _ l
      rw [h]
      exact init_inv l _ _
    · rw [mineAt_next V c ⟨n + 1, hn⟩ h]
      refine point_inv ⟨n + 1, hn⟩ hF l _ ?_
      have := ih (Nat.lt_of_succ_lt hn)
      show LaneInv (Spec.mu lab (2048 * ((n + 1) / 8) + l)) (Spec.sg x (2048 * ((n + 1) / 8) + l)) (1024 * ((n + 1) % 8)) _ l
      rw [show (n + 1) / 8 = n / 8 by omega, show 1024 * ((n + 1) % 8) = 1024 * (n % 8) + 1024 by omega]
      exact this

theorem fptosi_nat (n : ℕ) (h : n ≤ 8192) : Ideal.fptosi 32 ((n : ℝ) : EReal) = BitVec.ofNat 32 n := by
  show BitVec.ofInt 32 (max _ (min _ (if (0 : ℝ) ≤ (n : ℝ) then ⌊(n : ℝ)⌋ else ⌈(n : ℝ)⌉))) = _
  rw [if_pos (Nat.cast_nonneg n), Int.floor_natCast]
  rw [min_eq_right (by norm_num; omega), max_eq_right (by norm_num)]
  exact BitVec.ofInt_natCast 32 n

theorem out5_at (v : Vec Ideal S1x2048 .f32) (l : Fin 2048) (n : ℕ) (h : n ≤ 8192) (hv : (v (ix2 0 l) : EReal) = ((n : ℝ) : EReal)) :
    k1_pay1 v (ix3 0 0 l) = BitVec.ofNat 32 n - 1#32 := by
  have : k1_pay1 v (ix3 0 0 l) = Ideal.fptosi 32 (v (ix2 0 l)) - 1#32 := by
    pointwise [k1_pay1]
    rfl
  rw [this, hv, fptosi_nat n h]
theorem out6_at (v : Vec Ideal S1x2048 .f32) (l : Fin 2048) (n : ℕ) (h : n ≤ 8192) (hv : (v (ix2 0 l) : EReal) = ((n : ℝ) : EReal)) :
    k1_pay2 v (ix3 0 0 l) = BitVec.ofNat 32 n - 1#32 := by
  have : k1_pay2 v (ix3 0 0 l) = Ideal.fptosi 32 (v (ix2 0 l)) - 1#32 := by
    pointwise [k1_pay2]
    rfl
  rw [this, hv, fptosi_nat n h]

/-- The mining call's first result. -/
theorem mined5 (hF : Fed V c x lab) : (dat1 V c).arrAt 5 cfg1.N
    = fun y : S4x1x2048.Idx => BitVec.ofNat 32 (Spec.rj x lab (2048 * (y 0).val + (y 2).val)) - 1#32 := by
  refine (dat1 V c).arrAt_eq_of_covers 5 _ (by decide +kernel) fun t hf y => ?_
  have h7 := (flush1_5 t).1 hf
  blk_simp [idx1 t]
  rw [after1_5]
  idx_vars y
  have hi := mine_inv hF y2 t.val t.isLt
  rw [show 1024 * (t.val % 8) + 1024 = 8192 by omega] at hi
  have hr := Spec.inv_rank hi.1
  obtain rfl : y0 = 0 := Subsingleton.elim _ _
  obtain rfl : y1 = 0 := Subsingleton.elim _ _
  exact out5_at _ y2 _ (Spec.rank_le _ _) hr

/-- The mining call's second result. -/
theorem mined6 (hF : Fed V c x lab) : (dat1 V c).arrAt 6 cfg1.N
    = fun y : S4x1x2048.Idx => BitVec.ofNat 32 (Spec.rk x lab (2048 * (y 0).val + (y 2).val)) - 1#32 := by
  refine (dat1 V c).arrAt_eq_of_covers 6 _ (by decide +kernel) fun t hf y => ?_
  have h7 := (flush1_6 t).1 hf
  blk_simp [idx1 t]
  rw [after1_6]
  idx_vars y
  have hi := mine_inv hF y2 t.val t.isLt
  rw [show 1024 * (t.val % 8) + 1024 = 8192 by omega] at hi
  have hr := Spec.inv_rank hi.2
  obtain rfl : y0 = 0 := Subsingleton.elim _ _
  obtain rfl : y1 = 0 := Subsingleton.elim _ _
  exact out6_at _ y2 _ (Spec.rank_le _ _) hr

end Blocks

end Cert.KernelIdeal.Val

end
-- ==== Proof.Val.Arr.lean ====
module

public import proofs.«01_k».proof.Proof.Val.Mine
public import proofs.«01_k».proof.Proof.KI.Run
public import Idealize.ShloMosaic.Lib.Claim

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand
open Cert.Lane Cert.Consts

theorem idx0 : ∀ t : Fin cfg0.N, win0_0.index t = ![t.val, 0] ∧ win0_1.index t = ![t.val, 0] ∧ win0_2.index t = ![t.val, 0] :=
  (by decide +kernel : ∀ t : Fin grid0.N, _)

section Prep

variable (V : (c : Dev nD) → (b : Ref sig .tc) → Buf (Elt Ideal) ((c : Thread nD τ).loc b)) (c : Dev nD)

/-- The preparation's first result is the rows themselves. -/
theorem prep1 (X : FVec Ideal S8192x256 .f32) (h : V c main_arg0 = X) : (dat0 V c).arrAt 1 cfg0.N = fun y : S8192x256.Idx => (X y : EReal) := by
  subst h
  refine (dat0 V c).arrAt_eq_of_covers 1 _ (by decide +kernel) fun t hf y => ?_
  blk_simp [idx0 t]
  rw [after0_1]
  idx_vars y
  pointwise [k0_pay1]
  blk_ext [iblk0, idx0 t]

theorem sq_at (v : Vec Ideal S1024x256 .f32) (r : Fin 1024) : k0_pay2 v (ix2 r 0) = (Ideal.ofBits .f32 0x3F000000#32 : EReal) * ∑ k : Fin 256, (v (ix2 r k) : EReal) * v (ix2 r k) := by
  pointwise [k0_pay2]

/-- Its second is their half squared lengths. -/
theorem prep2 (X : FVec Ideal S8192x256 .f32) (h : V c main_arg0 = X) : (dat0 V c).arrAt 2 cfg0.N
    = fun y : S8192x1.Idx => (Ideal.ofBits .f32 0x3F000000#32 : EReal) * ∑ k : Fin 256, (X (ix2 (y 0 : Fin 8192) k) : EReal) * X (ix2 (y 0 : Fin 8192) k) := by
  subst h
  refine (dat0 V c).arrAt_eq_of_covers 2 _ (by decide +kernel) fun t hf y => ?_
  blk_simp [idx0 t]
  rw [after0_2]
  idx_vars y
  obtain rfl : y1 = 0 := Subsingleton.elim _ _
  refine (sq_at _ y0).trans ?_
  blk_point [iblk0, idx0 t]

end Prep

section Fed

variable (m : (ℓ : Loc nD τ sig) → Buf (Elt Ideal) ℓ) (c : Dev nD)

theorem V0_arg0 : V0 m c main_arg0 = m ((c : Thread nD τ).loc main_arg0) := rfl

theorem G0_v0_0 : G0 m c main_v0_0 = (dat0 (fun c b => V0 m c b) c).arrAt 1 cfg0.N := by
  unfold G0
  after_results
  unfold F0
  exact upd2_fst _ _ _ (by decide) _ _
theorem G0_v1 : G0 m c main_v1 = shapeCast S4x1x2048 (show IVec S8192 32 from m ((c : Thread nD τ).loc main_arg1)) shapeCasts_S8192_S4x1x2048 := by
  unfold G0
  after_results
  have : F0 m c main_arg1 = m ((c : Thread nD τ).loc main_arg1) := by
    unfold F0; exact upd2_of _ _ _ _ (by decide) (by decide) _ _
  rw [this]
  rfl
theorem G0_v2 : G0 m c main_v2 = shapeCast S8x1024x1 (show IVec S8192 32 from m ((c : Thread nD τ).loc main_arg1)) shapeCasts_S8192_S8x1024x1 := by
  unfold G0
  after_results
  have : F0 m c main_arg1 = m ((c : Thread nD τ).loc main_arg1) := by
    unfold F0; exact upd2_of _ _ _ _ (by decide) (by decide) _ _
  rw [this]
  rfl
theorem G0_v3 : G0 m c main_v3 = shapeCast S8x1024x1 (show FVec Ideal S8192x1 .f32 from (dat0 (fun c b => V0 m c b) c).arrAt 2 cfg0.N) shapeCasts_S8192x1_S8x1024x1 := by
  unfold G0
  after_results
  have : F0 m c main_v0_1 = (dat0 (fun c b => V0 m c b) c).arrAt 2 cfg0.N := by
    unfold F0; exact upd2_snd _ _ _ _ _
  rw [this]
  rfl

theorem fed {x : ℕ → Fin 256 → ℝ} {lab : ℕ → BitVec 32} (X : FVec Ideal S8192x256 .f32) (T : IVec S8192 32)
    (hX : m ((c : Thread nD τ).loc main_arg0) = X) (hT : m ((c : Thread nD τ).loc main_arg1) = T)
    (hx : ∀ (i : Fin 8192) (k : Fin 256), (X (ix2 i k) : EReal) = (x i k : EReal)) (hl : ∀ i : Fin 8192, T (ix1 i) = lab i) :
    Fed (fun c b => G0 m c b) c x lab where
  rows := ⟨_, (G0_v0_0 m c).trans (prep1 _ c X ((V0_arg0 m c).trans hX)), fun i k => hx i k⟩
  sq := ⟨_, G0_v3 m c, fun a r => by
    have e := prep2 (fun c b => V0 m c b) c X ((V0_arg0 m c).trans hX)
    rw [e]
    pointwise
    have e2 : ∀ i : Fin 8192, (∑ k : Fin 256, (X (ix2 i k) : EReal) * X (ix2 i k)) = ((Spec.S x i : ℝ) : EReal) := fun i => by
      unfold Spec.S
      rw [coe_sum]
      exact Finset.sum_congr rfl fun k _ => by rw [hx, ← EReal.coe_mul]
    rw [e2, c_half, ← EReal.coe_mul]
    congr 1
    show 1 / 2 * Spec.S x (a * 1024 + r) = _
    rw [mul_comm (a : ℕ) 1024]; ring⟩
  lanes := ⟨_, G0_v1 m c, fun a l => by
    rw [hT]
    pointwise
    rw [hl, mul_comm 2048]⟩
  cols := ⟨_, G0_v2 m c, fun a r => by
    rw [hT]
    pointwise
    rw [hl, mul_comm 1024]⟩

end Fed

end Cert.KernelIdeal.Val

end
-- ==== Proof.Val.RefRead.lean ====
module

public import proofs.«01_k».proof.ReferenceIdeal
public import proofs.«01_k».proof.Proof.Gen.ReferenceIdeal
public import Idealize.ShloMosaic.Lib.Claim
public import Idealize.ShloMosaic.PureOps.Ideal

@[expose] public section

set_option maxRecDepth 16384

noncomputable section

namespace Cert.RefRead

open Idealize.ShloMosaic Idealize.SL.Sem
open Cert.ReferenceIdeal Cert.ReferenceIdeal.Facts₀ Cert.ReferenceIdeal.Facts

/-- The squared distances of all pairs of rows, as the reference writes them. -/
def d2 (X : FVec Ideal S8192x256 .f32) : FVec Ideal S8192x8192 .f32 :=
  let sq : FVec Ideal S8192 .f32 := Host.reduceAdd (mulf X X) (constant (F := Ideal) S_ .f32 0x00000000#32) Gen.reducesTo_S8192x256_S8192_d1 Gen.h_S_
  subf (addf (broadcastInDim S8192x8192 ![0, 1] Gen.bcast_S8192x1_S8192x8192_0_1 (broadcastInDim S8192x1 ![0] Gen.bcast_S8192_S8192x1_0 sq))
      (broadcastInDim S8192x8192 ![0, 1] Gen.bcast_S1x8192_S8192x8192_0_1 (broadcastInDim S1x8192 ![1] Gen.bcast_S8192_S1x8192_1 sq)))
    (mulf (broadcastInDim S8192x8192 ![] Gen.bcast_S_S8192x8192 (constant (F := Ideal) S_ .f32 0x40000000#32))
      (Host.dotGeneral dot_S8192x256_S256x8192_S8192x8192_1_0_0_1_n_n none X (transpose S256x8192 [1, 0] X Gen.transposes_S8192x256_S256x8192_1_0)))

/-- The clipped distances. -/
def dist (X : FVec Ideal S8192x256 .f32) : FVec Ideal S8192x8192 .f32 :=
  Host.sqrt (maximumf (broadcastInDim S8192x8192 ![] Gen.bcast_S_S8192x8192 (constant (F := Ideal) S_ .f32 0x2B8CBCCC#32)) (d2 X))

/-- Which pairs of rows have the same label. -/
def mask (T : IVec S8192 32) : IVec S8192x8192 1 :=
  cmpi .eq (broadcastInDim S8192x8192 ![0, 1] Gen.bcast_S8192x1_S8192x8192_0_1 (broadcastInDim S8192x1 ![0] Gen.bcast_S8192_S8192x1_0 T))
    (broadcastInDim S8192x8192 ![0, 1] Gen.bcast_S1x8192_S8192x8192_0_1 (broadcastInDim S1x8192 ![1] Gen.bcast_S8192_S1x8192_1 T))

/-- The column of the farthest row of the same label. -/
def cpos (X : FVec Ideal S8192x256 .f32) (T : IVec S8192 32) : IVec S8192 32 := fun j =>
  (Host.argReduce reducer_argmax_f32_i32
    (select (mask T) (dist X) (broadcastInDim S8192x8192 ![] Gen.bcast_S_S8192x8192 (constant (F := Ideal) S_ .f32 0xFF800000#32)))
    (iotaInDim S8192x8192 32 1) (constant (F := Ideal) S_ .f32 0xFF800000#32) (constantI S_ 32 0#32) Gen.reducesTo_S8192x8192_S8192_d1 Gen.h_S_ j).2

/-- The column of the nearest row of another label. -/
def cneg (X : FVec Ideal S8192x256 .f32) (T : IVec S8192 32) : IVec S8192 32 := fun j =>
  (Host.argReduce reducer_argmin_f32_i32
    (select (mask T) (broadcastInDim S8192x8192 ![] Gen.bcast_S_S8192x8192 (constant (F := Ideal) S_ .f32 0x7F800000#32)) (dist X))
    (iotaInDim S8192x8192 32 1) (constant (F := Ideal) S_ .f32 0x7F800000#32) (constantI S_ 32 0#32) Gen.reducesTo_S8192x8192_S8192_d1 Gen.h_S_ j).2

/-- Running sums along the rows. -/
def csum (x : IVec S8192x8192 32) : IVec S8192x8192 32 :=
  Host.reduceWindow IntOp.addi ![1, 8192] ![1, 1] ![0, 8191] ![0, 0] x (broadcastInDim S_ ![] Gen.bcast_S_S_ (constantI S_ 32 0#32))
    Gen.reduceWindows_S8192x8192_S8192x8192_w1s1p0_0_w8192s1p8191_0 Gen.h_S_

/-- A negative index counted from the end. -/
def wrap (v : IVec S8192 32) : IVec S8192 32 :=
  select (cmpi .slt v (broadcastInDim S8192 ![] Gen.bcast_S_S8192 (constantI S_ 32 0#32)))
    (addi v (broadcastInDim S8192 ![] Gen.bcast_S_S8192 (constantI S_ 32 8192#32))) v

/-- Two columns of indices side by side. -/
def pair (a b : IVec S8192 32) : IVec S8192x2 32 :=
  concatenate S8192x2 1 [⟨S8192x1, broadcastInDim S8192x1 ![0] Gen.bcast_S8192_S8192x1_0 (wrap a)⟩, ⟨S8192x1, broadcastInDim S8192x1 ![0] Gen.bcast_S8192_S8192x1_0 (wrap b)⟩]
    Gen.concatenates_S8192x1_S8192x1_S8192x2_d1

/-- The row numbers. -/
def rows : IVec S8192 32 := iotaInDim S8192 32 0

/-- The position of the hardest positive among the rows of its label. -/
def rj (X : FVec Ideal S8192x256 .f32) (T : IVec S8192 32) : IVec S8192 32 :=
  subi (Host.gather gather_S8192x8192_S8192x2_S8192_n_01_n_n_01_1_11 (csum (extui 32 (mask T) Gen.natLt_1_32)) (pair rows (cpos X T)))
    (broadcastInDim S8192 ![] Gen.bcast_S_S8192 (constantI S_ 32 1#32))

/-- The position of the hardest negative among the rows of other labels. -/
def rk (X : FVec Ideal S8192x256 .f32) (T : IVec S8192 32) : IVec S8192 32 :=
  subi (Host.gather gather_S8192x8192_S8192x2_S8192_n_01_n_n_01_1_11 (csum (extui 32 (noti (mask T)) Gen.natLt_1_32)) (pair rows (cneg X T)))
    (broadcastInDim S8192 ![] Gen.bcast_S_S8192 (constantI S_ 32 1#32))

/-- Distances looked up at a pair of index columns. -/
def look (D : FVec Ideal S8192x8192 .f32) (a b : IVec S8192 32) : FVec Ideal S8192 .f32 :=
  Host.gather gather_S8192x8192_S8192x2_S8192_n_01_n_n_01_1_11 D (pair a b)

/-- The mean of a column of 8192 numbers. -/
def mean (v : FVec Ideal S8192 .f32) : FVec Ideal S_ .f32 :=
  Host.divf (Host.reduceAdd v (constant (F := Ideal) S_ .f32 0x00000000#32) Gen.reducesTo_S8192_S_d0 Gen.h_S_) (constant (F := Ideal) S_ .f32 0x46000000#32)

/-- The ranking loss of one distance matrix at given index columns. -/
def lossOf (D : FVec Ideal S8192x8192 .f32) (j k : IVec S8192 32) : FVec Ideal S_ .f32 :=
  addf (mean (maximumf (addf (subf (look D rows j) (look D rows k)) (broadcastInDim S8192 ![] Gen.bcast_S_S8192 (constant (F := Ideal) S_ .f32 0x3E99999A#32)))
      (broadcastInDim S8192 ![] Gen.bcast_S_S8192 (constant (F := Ideal) S_ .f32 0x00000000#32))))
    (mean (Host.absf (subf (look D rows k) (look D j k))))

/-- The reference's result. -/
def out (X : FVec Ideal S8192x256 .f32) (T : IVec S8192 32) : FVec Ideal S_ .f32 := lossOf (dist X) (rj X T) (rk X T)

/-- A line read in two parts. -/
theorem split {ops : List (HloOp τ sig (Elt Ideal))} (n : ℕ) {V : Valuation τ sig (Elt Ideal)} {b : DevRef τ sig}
    {x : b.ty.Contents (Elt Ideal)}
    (h : ∀ W, W = StableHlo.after (ops.take n) V → StableHlo.after (ops.drop n) W b = x) : StableHlo.after ops V b = x := by
  have e : ∀ (n : ℕ) (l : List (HloOp τ sig (Elt Ideal))) (V : Valuation τ sig (Elt Ideal)),
      StableHlo.after l V = StableHlo.after (l.drop n) (StableHlo.after (l.take n) V) := by
    intro n
    induction n with
    | zero => intro l V; rfl
    | succ n ih => intro l V; cases l with
      | nil => rfl
      | cons op l => exact ih l _
  rw [e n]; exact h _ rfl

end Cert.RefRead

end
-- ==== Proof.Val.Idx.lean ====
module

public import proofs.«01_k».proof.Proof.Val.Arr
public import proofs.«01_k».proof.Proof.Val.RefRead
public import Idealize.ShloMosaic.Lib.Affine

@[expose] public section

set_option maxRecDepth 16384

noncomputable section

namespace Cert.Idx

open Idealize.ShloMosaic Idealize.SL.Sem

theorem toInt_small {n : ℕ} (h : n < 8193) : (BitVec.ofNat 32 n).toInt = (n : ℤ) := by
  rw [BitVec.toInt_eq_toNat_of_lt (by rw [BitVec.toNat_ofNat]; omega), BitVec.toNat_ofNat]
  omega

theorem toInt_small' (n : Fin 8192) : (BitVec.ofNat 32 n.val).toInt.toNat = n.val := by
  rw [toInt_small (by omega)]; rfl

/-- Whole rows read at row numbers. -/
theorem rows_at {α : Type} (X : Cert.KernelIdeal.S8192x256.Idx → α) (s : IVec Cert.KernelIdeal.S8192x1 32) (i : Fin 8192) (k : Fin 256)
    (n : Fin 8192) (h : s (ix2 i 0) = BitVec.ofNat 32 n.val) :
    Host.gather Cert.KernelIdeal.gather_S8192x256_S8192x1_S8192x256_1_0_n_n_0_1_1256 X s (ix2 i k) = X (ix2 n k) := by
  unfold Host.gather
  congr 1
  funext a
  refine Fin.ext ?_
  generalize hd : Cert.KernelIdeal.gather_S8192x256_S8192x1_S8192x256_1_0_n_n_0_1_1256 = d
  show d.start _ s a + d.batchCoord _ a + d.offCoord _ a = _
  subst hd
  match a with
  | ⟨0, _⟩ =>
    have hsi : Cert.KernelIdeal.gather_S8192x256_S8192x1_S8192x256_1_0_n_n_0_1_1256.siIdx (ix2 i k) ⟨0, Nat.one_pos⟩ = ix2 i 0 := by
      funext b; refine Fin.ext ?_
      match b with
      | ⟨0, _⟩ => rfl
      | ⟨1, _⟩ => rfl
    have hs : Cert.KernelIdeal.gather_S8192x256_S8192x1_S8192x256_1_0_n_n_0_1_1256.start (ix2 i k) s 0 = n.val := by
      show min (s (Cert.KernelIdeal.gather_S8192x256_S8192x1_S8192x256_1_0_n_n_0_1_1256.siIdx (ix2 i k) ⟨0, Nat.one_pos⟩)).toInt.toNat (8192 - 1) = _
      rw [hsi, h, toInt_small']; omega
    show Cert.KernelIdeal.gather_S8192x256_S8192x1_S8192x256_1_0_n_n_0_1_1256.start (ix2 i k) s 0 + 0 + 0 = n.val
    rw [hs]; rfl
  | ⟨1, _⟩ =>
    show 0 + 0 + k.val = k.val
    omega

/-- A matrix read at pairs of row and column numbers. -/
theorem pair_at {α : Type} (D : Cert.ReferenceIdeal.S8192x8192.Idx → α) (s : IVec Cert.ReferenceIdeal.S8192x2 32) (i : Fin 8192)
    (n k : Fin 8192) (h0 : s (ix2 i 0) = BitVec.ofNat 32 n.val) (h1 : s (ix2 i 1) = BitVec.ofNat 32 k.val) :
    Host.gather Cert.ReferenceIdeal.gather_S8192x8192_S8192x2_S8192_n_01_n_n_01_1_11 D s (ix1 i) = D (ix2 n k) := by
  unfold Host.gather
  congr 1
  funext a
  refine Fin.ext ?_
  generalize hd : Cert.ReferenceIdeal.gather_S8192x8192_S8192x2_S8192_n_01_n_n_01_1_11 = d
  show d.start _ s a + d.batchCoord _ a + d.offCoord _ a = _
  subst hd
  match a with
  | ⟨0, _⟩ =>
    have hsi : Cert.ReferenceIdeal.gather_S8192x8192_S8192x2_S8192_n_01_n_n_01_1_11.siIdx (ix1 i) ⟨0, by decide⟩ = ix2 i 0 := by
      funext b; refine Fin.ext ?_
      match b with
      | ⟨0, _⟩ => rfl
      | ⟨1, _⟩ => rfl
    have hs : Cert.ReferenceIdeal.gather_S8192x8192_S8192x2_S8192_n_01_n_n_01_1_11.start (ix1 i) s 0 = n.val := by
      show min (s (Cert.ReferenceIdeal.gather_S8192x8192_S8192x2_S8192_n_01_n_n_01_1_11.siIdx (ix1 i) ⟨0, by decide⟩)).toInt.toNat (8192 - 1) = _
      rw [hsi, h0, toInt_small']; omega
    show Cert.ReferenceIdeal.gather_S8192x8192_S8192x2_S8192_n_01_n_n_01_1_11.start (ix1 i) s 0 + 0 + 0 = n.val
    rw [hs]; rfl
  | ⟨1, _⟩ =>
    have hsi : Cert.ReferenceIdeal.gather_S8192x8192_S8192x2_S8192_n_01_n_n_01_1_11.siIdx (ix1 i) ⟨1, by decide⟩ = ix2 i 1 := by
      funext b; refine Fin.ext ?_
      match b with
      | ⟨0, _⟩ => rfl
      | ⟨1, _⟩ => rfl
    have hs : Cert.ReferenceIdeal.gather_S8192x8192_S8192x2_S8192_n_01_n_n_01_1_11.start (ix1 i) s 1 = k.val := by
      show min (s (Cert.ReferenceIdeal.gather_S8192x8192_S8192x2_S8192_n_01_n_n_01_1_11.siIdx (ix1 i) ⟨1, by decide⟩)).toInt.toNat (8192 - 1) = _
      rw [hsi, h1, toInt_small']; omega
    show Cert.ReferenceIdeal.gather_S8192x8192_S8192x2_S8192_n_01_n_n_01_1_11.start (ix1 i) s 1 + 0 + 0 = k.val
    rw [hs]; rfl

/-- A rank less one, as a word. -/
theorem word_succ (n : ℕ) : BitVec.ofNat 32 (n + 1) - 1#32 = BitVec.ofNat 32 n := by
  rw [show (1#32 : BitVec 32) = BitVec.ofNat 32 1 from rfl]
  apply BitVec.eq_of_toNat_eq
  simp [BitVec.toNat_sub, BitVec.toNat_ofNat]
  omega

theorem slt_small {n : ℕ} (h : n < 8192) : IntOp.cmpi .slt (BitVec.ofNat 32 n) 0#32 = 0#1 := by
  unfold IntOp.cmpi
  have : ¬ ((n : ℤ) < 0) := by omega
  simp [BitVec.slt, toInt_small (show n < 8193 by omega), this]

/-- The row a rank less one names, the one before the first being the last: the remainder brought to the divisor's sign. -/
theorem wrap_rem (u : ArithUnit) {r : ℕ} (hr : r ≤ 8192) :
    Scalar.select
      (IntOp.andi (IntOp.cmpi .ne (IntOp.cmpi .slt (IntOp.remsi u (BitVec.ofNat 32 r - 1#32) 8192#32) 0#32) 0#1)
        (IntOp.cmpi .ne (IntOp.remsi u (BitVec.ofNat 32 r - 1#32) 8192#32) 0#32))
      (IntOp.addi (IntOp.remsi u (BitVec.ofNat 32 r - 1#32) 8192#32) 8192#32)
      (IntOp.remsi u (BitVec.ofNat 32 r - 1#32) 8192#32) = BitVec.ofNat 32 (Spec.col r) := by
  rcases r with _ | n
  · rw [IntOp.remsi_of_pos u (by decide)]; decide
  · have e : IntOp.remsi u (BitVec.ofNat 32 (n + 1) - 1#32) 8192#32 = BitVec.ofNat 32 n := by
      rw [word_succ]
      apply BitVec.eq_of_toNat_eq
      rw [IntOp.toNat_remsi u (by rw [BitVec.toNat_ofNat]; omega) 8192 (by decide) (by decide)]
      simp only [BitVec.toNat_ofNat]
      omega
    rw [e, slt_small (by omega)]
    have z : IntOp.andi (IntOp.cmpi .ne (0#1) 0#1) (IntOp.cmpi .ne (BitVec.ofNat 32 n) 0#32) = 0#1 := by
      unfold IntOp.andi IntOp.cmpi; simp
    rw [z]
    show BitVec.ofNat 32 n = _
    unfold Spec.col; simp

/-- The row a rank less one names: the number of rows added to a negative one. -/
theorem wrap_add {r : ℕ} (hr : r ≤ 8192) :
    Scalar.select (IntOp.cmpi .slt (BitVec.ofNat 32 r - 1#32) 0#32) (IntOp.addi (BitVec.ofNat 32 r - 1#32) 8192#32) (BitVec.ofNat 32 r - 1#32)
      = BitVec.ofNat 32 (Spec.col r) := by
  rcases r with _ | n
  · decide
  · rw [word_succ, slt_small (by omega)]
    show BitVec.ofNat 32 n = _
    unfold Spec.col; simp

theorem wrap_small {n : ℕ} (hr : n < 8192) :
    Scalar.select (IntOp.cmpi .slt (BitVec.ofNat 32 n) 0#32) (IntOp.addi (BitVec.ofNat 32 n) 8192#32) (BitVec.ofNat 32 n)
      = BitVec.ofNat 32 n := by
  rw [slt_small hr]; rfl

end Cert.Idx

end
-- ==== Proof.Val.Host.lean ====
module

public import proofs.«01_k».proof.Proof.Val.Arr
public import proofs.«01_k».proof.Proof.Val.Idx

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand
open Cert.Lane Cert.Consts

section Host

variable (m : (ℓ : Loc nD τ sig) → Buf (Elt Ideal) ℓ) (c : Dev nD)

theorem F1_v4_0 : F1 m c main_v4_0 = (dat1 (fun c b => G0 m c b) c).arrAt 5 cfg1.N := by
  unfold F1; exact upd2_fst _ _ _ (by decide) _ _
theorem F1_v4_1 : F1 m c main_v4_1 = (dat1 (fun c b => G0 m c b) c).arrAt 6 cfg1.N := by
  unfold F1; exact upd2_snd _ _ _ _ _
theorem F1_arg0 : F1 m c main_arg0 = m ((c : Thread nD τ).loc main_arg0) := by
  have h0 : F1 m c main_arg0 = G0 m c main_arg0 := by unfold F1; exact upd2_of _ _ _ _ (by decide) (by decide) _ _
  have h1 : G0 m c main_arg0 = F0 m c main_arg0 := by unfold G0; after_results
  have h2 : F0 m c main_arg0 = V0 m c main_arg0 := by unfold F0; exact upd2_of _ _ _ _ (by decide) (by decide) _ _
  rw [h0, h1, h2]
theorem F1_v3 : F1 m c main_v3 = shapeCast S8x1024x1 (show FVec Ideal S8192x1 .f32 from (dat0 (fun c b => V0 m c b) c).arrAt 2 cfg0.N) shapeCasts_S8192x1_S8x1024x1 := by
  have h0 : F1 m c main_v3 = G0 m c main_v3 := by unfold F1; exact upd2_of _ _ _ _ (by decide) (by decide) _ _
  rw [h0, G0_v3]

/-- The host line between the mining and the loss, from any contents. -/
def mid (W : Valuation τ sig (Elt Ideal)) : Valuation τ sig (Elt Ideal) :=
  StableHlo.after hostOps2_2 (StableHlo.after hostOps2_1 (StableHlo.after hostOps2 W))

/-- The column of row numbers a line of counts less one names. -/
def takeCol (v : IVec S4x1x2048 32) : IVec S8192x1 32 :=
  let q : IVec S8192 32 := Host.remsi (shapeCast S8192 v shapeCasts_S4x1x2048_S8192)
    (broadcastInDim S8192 ![] bcast_S_S8192 (select (cmpi .eq (constantI S_ 32 8192#32) (constantI S_ 32 0#32)) (constantI S_ 32 1#32) (constantI S_ 32 8192#32)))
  broadcastInDim S8192x1 ![0] bcast_S8192_S8192x1_0
    (select
      (andi
        (cmpi .ne (cmpi .slt q (broadcastInDim S8192 ![] bcast_S_S8192 (constantI S_ 32 0#32)))
          (broadcastInDim S8192 ![] bcast_S_S8192
            (cmpi .slt (select (cmpi .eq (constantI S_ 32 8192#32) (constantI S_ 32 0#32)) (constantI S_ 32 1#32) (constantI S_ 32 8192#32)) (constantI S_ 32 0#32))))
        (cmpi .ne q (broadcastInDim S8192 ![] bcast_S_S8192 (constantI S_ 32 0#32))))
      (addi q (broadcastInDim S8192 ![] bcast_S_S8192 (select (cmpi .eq (constantI S_ 32 8192#32) (constantI S_ 32 0#32)) (constantI S_ 32 1#32) (constantI S_ 32 8192#32))))
      q)

theorem takeCol_at (v : IVec S4x1x2048 32) (r : ℕ → ℕ) (hr : ∀ i, r i ≤ 8192)
    (h : v = fun y => BitVec.ofNat 32 (r (2048 * (y 0).val + (y 2).val)) - 1#32) (i : Fin 8192) :
    takeCol v (ix2 i 0) = BitVec.ofNat 32 (Spec.col (r i)) := by
  have hv : v (ix3 ⟨i.val / 2048, by omega⟩ 0 ⟨i.val % 2048, by omega⟩) = BitVec.ofNat 32 (r i) - 1#32 := by
    rw [h]
    show BitVec.ofNat 32 (r (2048 * (i.val / 2048) + i.val % 2048)) - 1#32 = _
    rw [Nat.div_add_mod]
  unfold takeCol
  pointwise []
  rw [hv, show Scalar.select (IntOp.cmpi CmpIPredicate.eq 8192#32 0#32) 1#32 8192#32 = 8192#32 by decide,
    show IntOp.cmpi CmpIPredicate.slt 8192#32 0#32 = 0#1 by decide]
  exact Idx.wrap_rem .host (hr i)

theorem mid_v7 (W : Valuation τ sig (Elt Ideal)) (X : FVec Ideal S8192x256 .f32) (v : IVec S4x1x2048 32) (r : ℕ → ℕ) (hr : ∀ i, r i ≤ 8192)
    (hX : W main_arg0 = X) (hv : W main_v4_0 = v) (h : v = fun y => BitVec.ofNat 32 (r (2048 * (y 0).val + (y 2).val)) - 1#32)
    (i : Fin 8192) (k : Fin 256) :
    (show FVec Ideal S8192x256 .f32 from mid W main_v7) (ix2 i k) = X (ix2 ⟨Spec.col (r i), Spec.col_lt (hr i)⟩ k) := by
  have e : mid W main_v7 = Host.gather gather_S8192x256_S8192x1_S8192x256_1_0_n_n_0_1_1256 X (takeCol v) := by
    unfold mid
    after_results
    simp only [hX, hv, cast_eq, id_eq]
    rfl
  show (mid W main_v7 : FVec Ideal S8192x256 .f32) (ix2 i k) = _
  rw [e]
  exact Idx.rows_at X _ i k _ (takeCol_at v r hr h i)

theorem mid_v8 (W : Valuation τ sig (Elt Ideal)) (X : FVec Ideal S8192x256 .f32) (v : IVec S4x1x2048 32) (r : ℕ → ℕ) (hr : ∀ i, r i ≤ 8192)
    (hX : W main_arg0 = X) (hv : W main_v4_1 = v) (h : v = fun y => BitVec.ofNat 32 (r (2048 * (y 0).val + (y 2).val)) - 1#32)
    (i : Fin 8192) (k : Fin 256) :
    (show FVec Ideal S8192x256 .f32 from mid W main_v8) (ix2 i k) = X (ix2 ⟨Spec.col (r i), Spec.col_lt (hr i)⟩ k) := by
  have e : mid W main_v8 = Host.gather gather_S8192x256_S8192x1_S8192x256_1_0_n_n_0_1_1256 X (takeCol v) := by
    unfold mid
    after_results
    simp only [hX, hv, cast_eq, id_eq]
    rfl
  show (mid W main_v8 : FVec Ideal S8192x256 .f32) (ix2 i k) = _
  rw [e]
  exact Idx.rows_at X _ i k _ (takeCol_at v r hr h i)

theorem mid_arg0 (W : Valuation τ sig (Elt Ideal)) : mid W main_arg0 = W main_arg0 := by unfold mid; after_results
theorem mid_v0_1 (W : Valuation τ sig (Elt Ideal)) : mid W main_v0_1 = W main_v0_1 := by unfold mid; after_results

theorem G1_mid : G1 m c = mid (F1 m c) := rfl

/-- What the loss call reads: the rows, the rows mined, and half the squared lengths. -/
structure Fed2 (V : (c : Dev nD) → (b : Ref sig .tc) → Buf (Elt Ideal) ((c : Thread nD τ).loc b)) (c : Dev nD) (x : ℕ → Fin 256 → ℝ) (lab : ℕ → BitVec 32) : Prop where
  rows : ∃ A : FVec Ideal S8192x256 .f32, V c main_arg0 = A ∧ ∀ (i : Fin 8192) (k : Fin 256), A (ix2 i k) = ((x i k : ℝ) : EReal)
  pos : ∃ A : FVec Ideal S8192x256 .f32, V c main_v7 = A ∧ ∀ (i : Fin 8192) (k : Fin 256), A (ix2 i k) = ((x (Spec.col (Spec.rj x lab i)) k : ℝ) : EReal)
  neg : ∃ A : FVec Ideal S8192x256 .f32, V c main_v8 = A ∧ ∀ (i : Fin 8192) (k : Fin 256), A (ix2 i k) = ((x (Spec.col (Spec.rk x lab i)) k : ℝ) : EReal)
  sq : ∃ A : FVec Ideal S8192x1 .f32, V c main_v0_1 = A ∧ ∀ i : Fin 8192, A (ix2 i 0) = ((Spec.S x i / 2 : ℝ) : EReal)

theorem fed2 (X : FVec Ideal S8192x256 .f32) (T : IVec S8192 32) (hX : m ((c : Thread nD τ).loc main_arg0) = X) (hT : m ((c : Thread nD τ).loc main_arg1) = T)
    (x : ℕ → Fin 256 → ℝ) (lab : ℕ → BitVec 32) (hx : ∀ (i : Fin 8192) (k : Fin 256), X (ix2 i k) = ((x i k : ℝ) : EReal))
    (hl : ∀ i : Fin 8192, T (ix1 i) = lab i) : Fed2 (fun c b => G1 m c b) c x lab := by
  have hF := fed m c X T hX hT hx hl
  refine ⟨⟨X, ?_, hx⟩, ⟨_, rfl, ?_⟩, ⟨_, rfl, ?_⟩, ?_⟩
  · show G1 m c main_arg0 = X
    rw [G1_mid, mid_arg0, F1_arg0, hX]
  · intro i k
    refine (mid_v7 (F1 m c) X _ (Spec.rj x lab) (fun i => Spec.rank_le _ _) ?_ rfl ?_ i k).trans (hx _ k)
    · rw [F1_arg0, hX]
    · rw [F1_v4_0]; exact mined5 hF
  · intro i k
    refine (mid_v8 (F1 m c) X _ (Spec.rk x lab) (fun i => Spec.rank_le _ _) ?_ rfl ?_ i k).trans (hx _ k)
    · rw [F1_arg0, hX]
    · rw [F1_v4_1]; exact mined6 hF
  · refine ⟨fun y : S8192x1.Idx => (Ideal.ofBits .f32 0x3F000000#32 : EReal) * ∑ k : Fin 256, (X (ix2 (y 0 : Fin 8192) k) : EReal) * X (ix2 (y 0 : Fin 8192) k), ?_, fun i => ?_⟩
    · show G1 m c main_v0_1 = _
      rw [G1_mid, mid_v0_1]
      have h0 : F1 m c main_v0_1 = G0 m c main_v0_1 := by unfold F1; exact upd2_of _ _ _ _ (by decide) (by decide) _ _
      have h1 : G0 m c main_v0_1 = F0 m c main_v0_1 := by unfold G0; after_results
      have h2 : F0 m c main_v0_1 = (dat0 (fun c b => V0 m c b) c).arrAt 2 cfg0.N := by unfold F0; exact upd2_snd _ _ _ _ _
      rw [h0, h1, h2]
      exact prep2 _ c X ((V0_arg0 m c).trans hX)
    · have e2 : (∑ k : Fin 256, (X (ix2 i k) : EReal) * X (ix2 i k)) = ((Spec.S x i : ℝ) : EReal) := by
        unfold Spec.S
        rw [coe_sum]
        exact Finset.sum_congr rfl fun k _ => by rw [hx, ← EReal.coe_mul]
      show (Ideal.ofBits .f32 0x3F000000#32 : EReal) * (∑ k : Fin 256, (X (ix2 i k) : EReal) * X (ix2 i k)) = _
      rw [e2, c_half, ← EReal.coe_mul]
      congr 1
      ring

end Host

end Cert.KernelIdeal.Val

end
-- ==== Proof.Val.Loss.lean ====
module

public import proofs.«01_k».proof.Proof.Val.Host

@[expose] public section

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand
open Cert.Lane Cert.Consts

theorem idx2 : ∀ t : Fin cfg2.N, win2_0.index t = ![t.val, 0] ∧ win2_1.index t = ![t.val, 0] ∧ win2_2.index t = ![t.val, 0]
    ∧ win2_3.index t = ![t.val, 0] ∧ win2_4.index t = ![0, 0] ∧ win2_5.index t = ![0, 0] ∧ t.val < 8 :=
  (by decide +kernel : ∀ t : Fin grid2.N, _)

section Step

variable (x0 x1 x2 : Vec Ideal S1024x256 .f32) (x3 : Vec Ideal S1024x1 .f32) (st : Vec Ideal S1x1 .f32 × Vec Ideal S1x1 .f32)

def sumR (u v : Fin 256 → ℝ) : ℝ := ∑ k, u k * v k

theorem sum_at (X Y : Vec Ideal S1024x256 .f32) (u v : Fin 1024 → Fin 256 → ℝ) (hX : ∀ r k, (X (ix2 r k) : EReal) = (u r k : EReal))
    (hY : ∀ r k, (Y (ix2 r k) : EReal) = (v r k : EReal)) (r : Fin 1024) :
    (∑ k : Fin 256, (X (ix2 r k) : EReal) * Y (ix2 r k)) = ((sumR (u r) (v r) : ℝ) : EReal) := by
  unfold sumR
  rw [coe_sum]
  exact Finset.sum_congr rfl fun k _ => by rw [hX, hY, ← EReal.coe_mul]

theorem max_coe (u v : ℝ) : max (u : EReal) (v : EReal) = ((max u v : ℝ) : EReal) := (EReal.coe_strictMono.monotone.map_max).symm

/-- A clipped distance, of two rows' squared lengths and product. -/
def ds (u v : Fin 256 → ℝ) : ℝ := Real.sqrt (max eps (sumR u u + sumR v v - 2 * sumR u v))

theorem sqrt_clip (v : ℝ) : Ideal.sqrt (max (v : EReal) (Ideal.ofBits .f32 0x2B8CBCCC#32)) = ((Real.sqrt (max eps v) : ℝ) : EReal) := by
  rw [c_eps, max_coe, Ideal.sqrt_coe, if_neg (not_lt.mpr (le_max_of_le_right eps_pos.le)), max_comm]

variable (p a d : Fin 1024 → Fin 256 → ℝ)

theorem pay9_at (h1 : ∀ r k, (x1 (ix2 r k) : EReal) = (a r k : EReal)) (r : Fin 1024) :
    (k2_pay9 x1 (ix2 r 0) : EReal) = ((1 / 2 * sumR (a r) (a r) : ℝ) : EReal) := by
  pointwise [k2_pay9, k2_pay6]
  rw [sum_at _ _ _ _ h1 h1, c_half, ← EReal.coe_mul]

theorem pay10_at (h1 : ∀ r k, (x1 (ix2 r k) : EReal) = (a r k : EReal)) (r : Fin 1024) :
    (k2_pay10 x1 (ix2 r 0) : EReal) = ((1 / 2 * sumR (a r) (a r) : ℝ) : EReal) := by
  pointwise [k2_pay10, k2_pay7]
  rw [sum_at _ _ _ _ h1 h1, c_half, ← EReal.coe_mul]

theorem pay11_at (h1 : ∀ r k, (x1 (ix2 r k) : EReal) = (a r k : EReal)) (h2 : ∀ r k, (x2 (ix2 r k) : EReal) = (d r k : EReal)) (r : Fin 1024) :
    (k2_pay11 x1 x2 (ix2 r 0) : EReal) = ((sumR (a r) (d r) : ℝ) : EReal) := by
  pointwise [k2_pay11, k2_pay7, k2_pay6]
  rw [sum_at _ _ _ _ h1 h2]

theorem pay12_at (h0 : ∀ r k, (x0 (ix2 r k) : EReal) = (p r k : EReal)) (h1 : ∀ r k, (x1 (ix2 r k) : EReal) = (a r k : EReal))
    (h3 : ∀ r, (x3 (ix2 r 0) : EReal) = ((sumR (p r) (p r) / 2 : ℝ) : EReal)) (r : Fin 1024) :
    (k2_pay12 x0 x1 x3 (ix2 r 0) : EReal) = ((ds (p r) (a r) : ℝ) : EReal) := by
  pointwise [k2_pay12, k2_pay6, k2_pay8, k2_pay9]
  rw [sum_at _ _ _ _ h1 h1, sum_at _ _ _ _ h0 h1, h3, c_half, c_two, ← EReal.coe_mul, ← EReal.coe_add, ← EReal.coe_sub, ← EReal.coe_mul]
  rw [sqrt_clip]
  unfold ds
  congr 3
  ring

theorem pay13_at (h0 : ∀ r k, (x0 (ix2 r k) : EReal) = (p r k : EReal)) (h2 : ∀ r k, (x2 (ix2 r k) : EReal) = (d r k : EReal))
    (h3 : ∀ r, (x3 (ix2 r 0) : EReal) = ((sumR (p r) (p r) / 2 : ℝ) : EReal)) (r : Fin 1024) :
    (k2_pay13 x0 x2 x3 (ix2 r 0) : EReal) = (((sumR (p r) (p r) + sumR (d r) (d r) - 2 * sumR (p r) (d r)) / 2 : ℝ) : EReal) := by
  pointwise [k2_pay13, k2_pay7, k2_pay8, k2_pay10]
  rw [sum_at _ _ _ _ h2 h2, sum_at _ _ _ _ h0 h2, h3, c_half, ← EReal.coe_mul, ← EReal.coe_add, ← EReal.coe_sub]
  congr 1
  ring

theorem step_at (h0 : ∀ r k, (x0 (ix2 r k) : EReal) = (p r k : EReal)) (h1 : ∀ r k, (x1 (ix2 r k) : EReal) = (a r k : EReal))
    (h2 : ∀ r k, (x2 (ix2 r k) : EReal) = (d r k : EReal)) (h3 : ∀ r, (x3 (ix2 r 0) : EReal) = ((sumR (p r) (p r) / 2 : ℝ) : EReal))
    (s1 s2 : ℝ) (e1 : (st.1 (ix2 0 0) : EReal) = (s1 : EReal)) (e2 : (st.2 (ix2 0 0) : EReal) = (s2 : EReal)) :
    ((lossStep x0 x1 x2 x3 st).1 (ix2 0 0) : EReal)
        = ((s1 + ∑ r : Fin 1024, max (ds (p r) (a r) - ds (p r) (d r) + margin) 0 : ℝ) : EReal)
      ∧ ((lossStep x0 x1 x2 x3 st).2 (ix2 0 0) : EReal) = ((s2 + ∑ r : Fin 1024, |ds (p r) (d r) - ds (a r) (d r)| : ℝ) : EReal) := by
  have g (r : Fin 1024) : Ideal.sqrt (max (Ideal.ofBits .f32 0x40000000#32 * (k2_pay13 x0 x2 x3 (ix2 r 0) : EReal)) (Ideal.ofBits .f32 0x2B8CBCCC#32))
      = ((ds (p r) (d r) : ℝ) : EReal) := by
    rw [pay13_at x0 x2 x3 p d h0 h2 h3, c_two, ← EReal.coe_mul, sqrt_clip]
    unfold ds
    congr 3
    ring
  constructor
  · show (k2_pay2 (k2_pay12 x0 x1 x3) (k2_pay13 x0 x2 x3) (Scalar.ofBits .f32 0x40000000#32) st.1 (ix2 0 0) : EReal) = _
    generalize hu : k2_pay12 x0 x1 x3 = u
    generalize hv : k2_pay13 x0 x2 x3 = v at g
    pointwise [k2_pay2, k2_pay1]
    rw [e1, EReal.coe_add, coe_sum]
    congr 1
    refine Finset.sum_congr rfl fun r _ => ?_
    rw [g, ← hu, pay12_at x0 x1 x3 p a h0 h1 h3, c_margin, ← EReal.coe_sub, ← EReal.coe_add, ← EReal.coe_zero, max_coe]
  · show (k2_pay3 (k2_pay9 x1) (k2_pay10 x2) (k2_pay11 x1 x2) (k2_pay13 x0 x2 x3) (Scalar.ofBits .f32 0x40000000#32) st.2 (ix2 0 0) : EReal) = _
    have h9 := pay9_at x1 a h1
    have h10 := pay10_at x2 d h2
    have h11 := pay11_at x1 x2 a d h1 h2
    generalize k2_pay9 x1 = u9 at h9
    generalize k2_pay10 x2 = u10 at h10
    generalize k2_pay11 x1 x2 = u11 at h11
    generalize k2_pay13 x0 x2 x3 = v at g
    pointwise [k2_pay3, k2_pay1]
    rw [e2, EReal.coe_add, coe_sum]
    congr 1
    refine Finset.sum_congr rfl fun r _ => ?_
    rw [g, h9, h10, h11, c_two, ← EReal.coe_add, ← EReal.coe_sub, ← EReal.coe_mul, sqrt_clip, Ideal.absf_def, ← EReal.coe_sub, ← EReal.coe_neg, max_coe]
    rw [show (2 * (1 / 2 * sumR (a r) (a r) + 1 / 2 * sumR (d r) (d r) - sumR (a r) (d r))) = sumR (a r) (a r) + sumR (d r) (d r) - 2 * sumR (a r) (d r) by ring]
    rfl

end Step

section Blocks

variable (V : (c : Dev nD) → (b : Ref sig .tc) → Buf (Elt Ideal) ((c : Thread nD τ).loc b)) (c : Dev nD) (t : Fin cfg2.N)

theorem blk2_0 (A : Vec Ideal S8192x256 .f32) (h : V c main_arg0 = A) (r : Fin 1024) (k : Fin 256) :
    (show EReal from iblk2 V c 0 t (ix2 r k)) = A (ix2 (⟨1024 * t.val + r, by have := (idx2 t).2.2.2.2.2.2; omega⟩ : Fin 8192) k) := by
  subst h
  blk_ext [iblk2, idx2 t]
theorem blk2_1 (A : Vec Ideal S8192x256 .f32) (h : V c main_v7 = A) (r : Fin 1024) (k : Fin 256) :
    (show EReal from iblk2 V c 1 t (ix2 r k)) = A (ix2 (⟨1024 * t.val + r, by have := (idx2 t).2.2.2.2.2.2; omega⟩ : Fin 8192) k) := by
  subst h
  blk_ext [iblk2, idx2 t]
theorem blk2_2 (A : Vec Ideal S8192x256 .f32) (h : V c main_v8 = A) (r : Fin 1024) (k : Fin 256) :
    (show EReal from iblk2 V c 2 t (ix2 r k)) = A (ix2 (⟨1024 * t.val + r, by have := (idx2 t).2.2.2.2.2.2; omega⟩ : Fin 8192) k) := by
  subst h
  blk_ext [iblk2, idx2 t]
theorem blk2_3 (A : Vec Ideal S8192x1 .f32) (h : V c main_v0_1 = A) (r : Fin 1024) :
    (show EReal from iblk2 V c 3 t (ix2 r 0)) = A (ix2 (⟨1024 * t.val + r, by have := (idx2 t).2.2.2.2.2.2; omega⟩ : Fin 8192) 0) := by
  subst h
  blk_ext [iblk2, idx2 t]

variable {x : ℕ → Fin 256 → ℝ} {lab : ℕ → BitVec 32}

theorem ds_eq (i j : ℕ) : ds (x i) (x j) = Spec.dist x i j := rfl

/-- One point adds the two terms of its block of rows. -/
theorem point2 (hF : Fed2 V c x lab) (st : Vec Ideal S1x1 .f32 × Vec Ideal S1x1 .f32)
    (e1 : (st.1 (ix2 0 0) : EReal) = ((∑ i ∈ Finset.range (1024 * t.val), Spec.rankLoss x lab i : ℝ) : EReal))
    (e2 : (st.2 (ix2 0 0) : EReal) = ((∑ i ∈ Finset.range (1024 * t.val), Spec.refLoss x lab i : ℝ) : EReal)) :
    ((lossStep (iblk2 V c 0 t) (iblk2 V c 1 t) (iblk2 V c 2 t) (iblk2 V c 3 t) st).1 (ix2 0 0) : EReal)
        = ((∑ i ∈ Finset.range (1024 * t.val + 1024), Spec.rankLoss x lab i : ℝ) : EReal)
      ∧ ((lossStep (iblk2 V c 0 t) (iblk2 V c 1 t) (iblk2 V c 2 t) (iblk2 V c 3 t) st).2 (ix2 0 0) : EReal)
        = ((∑ i ∈ Finset.range (1024 * t.val + 1024), Spec.refLoss x lab i : ℝ) : EReal) := by
  obtain ⟨A0, g0, f0⟩ := hF.rows
  obtain ⟨A1, g1, f1⟩ := hF.pos
  obtain ⟨A2, g2, f2⟩ := hF.neg
  obtain ⟨A3, g3, f3⟩ := hF.sq
  have h := step_at (iblk2 V c 0 t) (iblk2 V c 1 t) (iblk2 V c 2 t) (iblk2 V c 3 t) st
    (fun r => x (1024 * t.val + r)) (fun r => x (Spec.col (Spec.rj x lab (1024 * t.val + r)))) (fun r => x (Spec.col (Spec.rk x lab (1024 * t.val + r))))
    (fun r k => (blk2_0 V c t A0 g0 r k).trans (f0 _ k)) (fun r k => (blk2_1 V c t A1 g1 r k).trans (f1 _ k))
    (fun r k => (blk2_2 V c t A2 g2 r k).trans (f2 _ k)) (fun r => (blk2_3 V c t A3 g3 r).trans (f3 _)) _ _ e1 e2
  rw [Finset.sum_range_add, Finset.sum_range_add, ← Fin.sum_univ_eq_sum_range (fun i => Spec.rankLoss x lab (1024 * t.val + i)) 1024,
    ← Fin.sum_univ_eq_sum_range (fun i => Spec.refLoss x lab (1024 * t.val + i)) 1024]
  exact h

theorem loss_inv (hF : Fed2 V c x lab) : ∀ (n : ℕ) (hn : n < cfg2.N),
    ((lossAt V c n hn).1 (ix2 0 0) : EReal) = ((∑ i ∈ Finset.range (1024 * n + 1024), Spec.rankLoss x lab i : ℝ) : EReal)
      ∧ ((lossAt V c n hn).2 (ix2 0 0) : EReal) = ((∑ i ∈ Finset.range (1024 * n + 1024), Spec.refLoss x lab i : ℝ) : EReal) := by
  intro n
  induction n with
  | zero =>
    intro hn
    rw [lossAt_first V c ⟨0, hn⟩ rfl]
    refine point2 V c ⟨0, hn⟩ hF _ ?_ ?_
    · show (k2_pay4 (F := Ideal) (ix2 0 0) : EReal) = ((∑ i ∈ Finset.range 0, Spec.rankLoss x lab i : ℝ) : EReal)
      pointwise [k2_pay4]; simp
    · show (k2_pay5 (F := Ideal) (ix2 0 0) : EReal) = ((∑ i ∈ Finset.range 0, Spec.refLoss x lab i : ℝ) : EReal)
      pointwise [k2_pay5]; simp
  | succ n ih =>
    intro hn
    have h8 := (idx2 ⟨n + 1, hn⟩).2.2.2.2.2.2
    rw [lossAt_next V c ⟨n + 1, hn⟩ (by show (n + 1) % 8 ≠ 0; simp only at h8; omega)]
    exact point2 V c ⟨n + 1, hn⟩ hF _ (ih (Nat.lt_of_succ_lt hn)).1 (ih (Nat.lt_of_succ_lt hn)).2

theorem summed4 (hF : Fed2 V c x lab) : (dat2 V c).arrAt 4 cfg2.N
    = fun _ : S1x1.Idx => ((∑ i : Fin 8192, Spec.rankLoss x lab i : ℝ) : EReal) := by
  refine (dat2 V c).arrAt_eq_of_covers 4 _ (by decide +kernel) fun t hf y => ?_
  have h7 := (flush2_4 t).1 hf
  have h8 := (idx2 t).2.2.2.2.2.2
  blk_simp [idx2 t]
  rw [after2_4]
  idx_vars y
  obtain rfl : y0 = 0 := Subsingleton.elim _ _
  obtain rfl : y1 = 0 := Subsingleton.elim _ _
  refine (loss_inv V c hF t.val t.isLt).1.trans ?_
  rw [show 1024 * t.val + 1024 = 8192 by omega, ← Fin.sum_univ_eq_sum_range]

theorem summed5 (hF : Fed2 V c x lab) : (dat2 V c).arrAt 5 cfg2.N
    = fun _ : S1x1.Idx => ((∑ i : Fin 8192, Spec.refLoss x lab i : ℝ) : EReal) := by
  refine (dat2 V c).arrAt_eq_of_covers 5 _ (by decide +kernel) fun t hf y => ?_
  have h7 := (flush2_5 t).1 hf
  have h8 := (idx2 t).2.2.2.2.2.2
  blk_simp [idx2 t]
  rw [after2_5]
  idx_vars y
  obtain rfl : y0 = 0 := Subsingleton.elim _ _
  obtain rfl : y1 = 0 := Subsingleton.elim _ _
  refine (loss_inv V c hF t.val t.isLt).2.trans ?_
  rw [show 1024 * t.val + 1024 = 8192 by omega, ← Fin.sum_univ_eq_sum_range]

end Blocks

section Result

theorem div_8192 (r : ℝ) : Ideal.div (r : EReal) ((8192 : ℝ) : EReal) = ((r / 8192 : ℝ) : EReal) := by
  rw [Ideal.div_coe (by norm_num), ← EReal.coe_mul]
  congr 1
  ring

variable (m : (ℓ : Loc nD τ sig) → Buf (Elt Ideal) ℓ) (c : Dev nD)

theorem last_v13 (W : Valuation τ sig (Elt Ideal)) (u v : EReal) (hu : W main_v9_0 = fun _ : S1x1.Idx => u) (hv : W main_v9_1 = fun _ : S1x1.Idx => v) :
    StableHlo.after hostOps3 W main_v13 = fun _ : S_.Idx => Ideal.div (u + v) (Ideal.ofBits .f32 0x46000000#32) := by
  after_results
  simp only [hu, hv]
  rfl

/-- What the kernel leaves in the result array. -/
theorem result (X : FVec Ideal S8192x256 .f32) (T : IVec S8192 32) (hX : m ((c : Thread nD τ).loc main_arg0) = X) (hT : m ((c : Thread nD τ).loc main_arg1) = T)
    (x : ℕ → Fin 256 → ℝ) (lab : ℕ → BitVec 32) (hx : ∀ (i : Fin 8192) (k : Fin 256), X (ix2 i k) = ((x i k : ℝ) : EReal))
    (hl : ∀ i : Fin 8192, T (ix1 i) = lab i) : G2 m c main_v13 = fun _ : S_.Idx => ((Spec.loss x lab : ℝ) : EReal) := by
  have hF := fed2 m c X T hX hT x lab hx hl
  have h0 : F2 m c main_v9_0 = (dat2 (fun c b => G1 m c b) c).arrAt 4 cfg2.N := by unfold F2; exact upd2_fst _ _ _ (by decide) _ _
  have h1 : F2 m c main_v9_1 = (dat2 (fun c b => G1 m c b) c).arrAt 5 cfg2.N := by unfold F2; exact upd2_snd _ _ _ _ _
  rw [summed4 _ c hF] at h0
  rw [summed5 _ c hF] at h1
  refine (last_v13 (F2 m c) _ _ h0 h1).trans (funext fun _ => ?_)
  rw [c_8192, ← EReal.coe_add]
  unfold Spec.loss
  rw [div_8192, add_div]

end Result

end Cert.KernelIdeal.Val

end
-- ==== Proof.Val.RefStages.lean ====
module

public import proofs.«01_k».proof.ReferenceIdeal
public import proofs.«01_k».proof.Proof.Gen.ReferenceIdeal
public import proofs.«01_k».proof.Proof.Val.RefRead
public import Idealize.ShloMosaic.Lib.Claim
public import Idealize.ShloMosaic.PureOps.Ideal

@[expose] public section

set_option maxRecDepth 16384

noncomputable section

namespace Cert.RefRead

open Idealize.ShloMosaic Idealize.SL.Sem
open Cert.ReferenceIdeal Cert.ReferenceIdeal.Facts₀ Cert.ReferenceIdeal.Facts

set_option maxHeartbeats 0 in
/-- The reference ends with `out` of its arguments in the result array. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v127) = out (m ((c.tc : Thread nD τ).loc main_arg0)) (m ((c.tc : Thread nD τ).loc main_arg1))) := by
  refine θ_run_mono (StableHlo.run_hlo _ _ (by hlo_seq) (by decide) (by decide) (by simp)
      (by intro _ h; (repeat (cases h with | head => rfl | tail _ h => ?_)); exact nomatch h) _ _) ?_
  intro r hr c
  refine (hr c main_v127).trans ?_
  clear hr
  have hX : StableHlo.launchContents m c (Proc.devRef .tc main_arg0) = m ((c.tc : Thread nD τ).loc main_arg0) := rfl
  have hT : StableHlo.launchContents m c (Proc.devRef .tc main_arg1) = m ((c.tc : Thread nD τ).loc main_arg1) := rfl
  generalize StableHlo.launchContents m c = V0 at hX hT ⊢
  generalize m ((c.tc : Thread nD τ).loc main_arg0) = X at hX ⊢
  generalize m ((c.tc : Thread nD τ).loc main_arg1) = T at hT ⊢
  refine split 24 ?_
  intro W1 hW1
  simp only [List.take_succ_cons, List.take_zero] at hW1
  simp only [List.drop_succ_cons, List.drop_zero]
  have h13 : W1 (Proc.devRef .tc main_v13) = dist X := by
    rw [hW1]; after_results
    simp only [hX, cast_eq, id_eq]
    simp only [dist, d2]
    all_goals with_reducible rfl
  have h18 : W1 (Proc.devRef .tc main_v18) = mask T := by
    rw [hW1]; after_results
    simp only [hT]
    simp only [mask]
    all_goals with_reducible rfl
  clear hW1 hX hT
  refine split 28 ?_
  intro W2 hW2
  simp only [List.take_succ_cons, List.take_zero] at hW2
  simp only [List.drop_succ_cons, List.drop_zero]
  have g13 : W2 (Proc.devRef .tc main_v13) = dist X := by
    rw [hW2]; after_results; exact h13
  have g28 : W2 (Proc.devRef .tc main_v28) = rows := by
    rw [hW2]; after_results; unfold rows; all_goals with_reducible rfl
  have g20 : W2 (Proc.devRef .tc main_v20) = cpos X T := by
    rw [hW2]; after_results
    simp only [h13, h18, cast_eq, id_eq]
    unfold cpos
    all_goals with_reducible rfl
  have g22 : W2 (Proc.devRef .tc main_v22) = cneg X T := by
    rw [hW2]; after_results
    simp only [h13, h18, cast_eq, id_eq]
    unfold cneg
    all_goals with_reducible rfl
  have g24 : W2 (Proc.devRef .tc main_v24) = csum (extui 32 (mask T) Gen.natLt_1_32) := by
    rw [hW2]; after_results
    simp only [h18, cast_eq, id_eq]
    unfold csum
    all_goals with_reducible rfl
  have g27 : W2 (Proc.devRef .tc main_v27) = csum (extui 32 (noti (mask T)) Gen.natLt_1_32) := by
    rw [hW2]; after_results
    simp only [h18, cast_eq, id_eq]
    unfold csum
    all_goals with_reducible rfl
  clear hW2 h13 h18
  refine split 42 ?_
  intro W3 hW3
  simp only [List.take_succ_cons, List.take_zero] at hW3
  simp only [List.drop_succ_cons, List.drop_zero]
  have k13 : W3 (Proc.devRef .tc main_v13) = dist X := by
    rw [hW3]; after_results; exact g13
  have k28 : W3 (Proc.devRef .tc main_v28) = rows := by
    rw [hW3]; after_results; exact g28
  have k44 : W3 (Proc.devRef .tc main_v44) = rj X T := by
    rw [hW3]; after_results
    rw [g24, g28, g20]
    simp only [rj, pair, wrap]
    all_goals with_reducible rfl
  have k60 : W3 (Proc.devRef .tc main_v60) = rk X T := by
    rw [hW3]; after_results
    rw [g27, g28, g22]
    simp only [rk, pair, wrap]
    all_goals with_reducible rfl
  clear hW3 g13 g28 g24 g27 g20 g22
  refine split 72 ?_
  intro W4 hW4
  simp only [List.take_succ_cons, List.take_zero] at hW4
  simp only [List.drop_succ_cons, List.drop_zero]
  have e74 : W4 (Proc.devRef .tc main_v74) = look (dist X) rows (rj X T) := by
    rw [hW4]; after_results
    rw [k13, k28, k44]
    simp only [look, pair, wrap]
    all_goals with_reducible rfl
  have e88 : W4 (Proc.devRef .tc main_v88) = look (dist X) rows (rk X T) := by
    rw [hW4]; after_results
    rw [k13, k28, k60]
    simp only [look, pair, wrap]
    all_goals with_reducible rfl
  have e102 : W4 (Proc.devRef .tc main_v102) = look (dist X) rows (rk X T) := by
    rw [hW4]; after_results
    rw [k13, k28, k60]
    simp only [look, pair, wrap]
    all_goals with_reducible rfl
  have e116 : W4 (Proc.devRef .tc main_v116) = look (dist X) (rj X T) (rk X T) := by
    rw [hW4]; after_results
    rw [k13, k44, k60]
    simp only [look, pair, wrap]
    all_goals with_reducible rfl
  clear hW4 k13 k28 k44 k60
  after_results
  simp only [e74, e88, e102, e116, cast_eq, id_eq]
  simp only [out, lossOf, mean]
  all_goals with_reducible rfl

end Cert.RefRead

end
-- ==== Proof.Val.Ref.lean ====
module

public import proofs.«01_k».proof.Proof.Val.Idx
public import Idealize.ShloMosaic.Lib.Pipeline.ValueKit
public import Idealize.ShloMosaic.Lib.Routing.Ops

@[expose] public section

set_option maxRecDepth 16384

noncomputable section

namespace Cert.RefRead

open Idealize.ShloMosaic Idealize.SL.Sem
open Cert.ReferenceIdeal Cert.ReferenceIdeal.Facts₀ Cert.ReferenceIdeal.Facts
open Cert.Lane Cert.Consts

/-! ### Folds that pick a column -/

/-- The better of two columns, by the key `κ` of their values and then by their numbers. -/
def better (κ : EReal → EReal) (a b : EReal × BitVec 32) : EReal × BitVec 32 :=
  open Classical in if κ b.1 < κ a.1 ∨ (a.1 = b.1 ∧ a.2.toInt < b.2.toInt) then a else b

theorem one_or (b : BitVec 1) : 1#1 ||| b = 1#1 := by revert b; decide

theorem argmax_eq : (reducer_argmax_f32_i32 (F := Ideal)) = better (fun v => v) := by
  funext a b
  obtain ⟨a1, a2⟩ := a
  obtain ⟨b1, b2⟩ := b
  unfold reducer_argmax_f32_i32 better
  simp only [Ideal.cmpf_def, Ideal.cmp, IntOp.cmpi, IntOp.ori, IntOp.andi, Scalar.select]
  rcases lt_trichotomy b1 a1 with h | h | h
  · simp [h, one_or]
  · subst h
    by_cases h2 : a2.toInt < b2.toInt <;> simp [h2, BitVec.slt]
  · simp [h, not_lt.mpr h.le, h.ne]

theorem argmin_eq : (reducer_argmin_f32_i32 (F := Ideal)) = better (fun v => -v) := by
  funext a b
  obtain ⟨a1, a2⟩ := a
  obtain ⟨b1, b2⟩ := b
  unfold reducer_argmin_f32_i32 better
  simp only [Ideal.cmpf_def, Ideal.cmp, IntOp.cmpi, IntOp.ori, IntOp.andi, Scalar.select, EReal.neg_lt_neg_iff]
  rcases lt_trichotomy a1 b1 with h | h | h
  · simp [h, one_or]
  · subst h
    by_cases h2 : a2.toInt < b2.toInt <;> simp [h2, BitVec.slt]
  · simp [not_lt.mpr h.le, h.ne']

/-- At least as good. -/
def Ge (κ : EReal → EReal) (r q : EReal × BitVec 32) : Prop := κ q.1 < κ r.1 ∨ (q.1 = r.1 ∧ r.2.toInt ≤ q.2.toInt)

theorem Ge.refl (κ : EReal → EReal) (r : EReal × BitVec 32) : Ge κ r r := .inr ⟨rfl, le_rfl⟩

theorem Ge.trans {κ : EReal → EReal} {r q p : EReal × BitVec 32} (h : Ge κ r q) (h' : Ge κ q p) : Ge κ r p := by
  rcases h with h | ⟨h, k⟩ <;> rcases h' with h' | ⟨h', k'⟩
  · exact .inl (h'.trans h)
  · exact .inl (by rw [h']; exact h)
  · exact .inl (by rw [← h]; exact h')
  · exact .inr ⟨h'.trans h, k.trans k'⟩

theorem better_left {κ : EReal → EReal} (hκ : Function.Injective κ) (a b : EReal × BitVec 32) : Ge κ (better κ a b) a := by
  unfold better
  split
  · exact Ge.refl _ _
  · rename_i h
    push Not at h
    rcases lt_or_eq_of_le h.1 with h1 | h1
    · exact .inl h1
    · exact .inr ⟨hκ h1, h.2 (hκ h1)⟩

theorem better_right (κ : EReal → EReal) (a b : EReal × BitVec 32) : Ge κ (better κ a b) b := by
  unfold better
  split
  · rename_i h
    rcases h with h | ⟨h, k⟩
    · exact .inl h
    · exact .inr ⟨h.symm, k.le⟩
  · exact Ge.refl _ _

theorem better_or (κ : EReal → EReal) (a b : EReal × BitVec 32) : better κ a b = a ∨ better κ a b = b := by
  unfold better
  split
  · exact .inl rfl
  · exact .inr rfl

theorem fold_inv {κ : EReal → EReal} (hκ : Function.Injective κ) : ∀ (l : List (EReal × BitVec 32)) (z : EReal × BitVec 32),
    (l.foldl (better κ) z = z ∨ l.foldl (better κ) z ∈ l) ∧ Ge κ (l.foldl (better κ) z) z ∧ ∀ q ∈ l, Ge κ (l.foldl (better κ) z) q := by
  intro l
  induction l with
  | nil => exact fun z => ⟨.inl rfl, Ge.refl _ _, fun q hq => absurd hq List.not_mem_nil⟩
  | cons b l ih =>
    intro z
    obtain ⟨h1, h2, h3⟩ := ih (better κ z b)
    rw [List.foldl_cons]
    refine ⟨?_, h2.trans (better_left hκ z b), fun q hq => ?_⟩
    · rcases h1 with h1 | h1
      · rcases better_or κ z b with h | h
        · exact .inl (h1.trans h)
        · exact .inr (List.mem_cons.2 (.inl (h1.trans h)))
      · exact .inr (List.mem_cons_of_mem _ h1)
    · rcases List.mem_cons.1 hq with rfl | hq
      · exact h2.trans (better_right κ z q)
      · exact h3 q hq

theorem mem_fiber (x : S8192x8192.Idx → EReal) (y : S8192x8192.Idx → BitVec 32) (h : S8192x8192.ReducesTo [1] S8192) (i : Fin 8192) (q : EReal × BitVec 32) :
    q ∈ Host.argReduceFiber x y h (ix1 i) ↔ ∃ u : Fin 8192, q = (x (ix2 i u), y (ix2 i u)) := by
  have hd : ∀ p u : Fin 8192, h.drop (ix2 p u) = ix1 p := fun p u => by
    funext b
    obtain rfl : b = 0 := Subsingleton.elim _ _
    exact Fin.ext (Shape.ReducesTo.drop_apply_val_of_eq h (ix2 p u) 0 0 (by decide) (by decide))
  unfold Host.argReduceFiber
  rw [List.mem_map]
  constructor
  · rintro ⟨n, hn, rfl⟩
    have hn := (List.mem_filter.1 hn).2
    rw [decide_eq_true_eq] at hn
    generalize S8192x8192.rowMajor.symm n = w at hn ⊢
    obtain ⟨a, b, rfl⟩ : ∃ a b : Fin 8192, w = ix2 a b := ⟨w 0, w 1, ValueIdx.eq_ix2 w⟩
    rw [hd] at hn
    obtain rfl : a = i := congrFun hn 0
    exact ⟨b, rfl⟩
  · rintro ⟨u, rfl⟩
    refine ⟨S8192x8192.rowMajor (ix2 i u), List.mem_filter.2 ⟨List.mem_finRange _, ?_⟩, ?_⟩
    · rw [Equiv.symm_apply_apply, decide_eq_true_eq]; exact hd i u
    · rw [Equiv.symm_apply_apply]

/-- The column a fold of a row picks: the best of those with `μ`, when there is one. -/
theorem picked {κ : EReal → EReal} (hκ : Function.Injective κ) (f : EReal × BitVec 32 → EReal × BitVec 32 → EReal × BitVec 32) (hf : f = better κ)
    (x : S8192x8192.Idx → EReal) (h : S8192x8192.ReducesTo [1] S8192) (i : Fin 8192) (bad : EReal) (hb : κ bad = ⊥)
    (μ : ℕ → Prop) (σ : ℕ → ℝ) (h1 : ∀ u : Fin 8192, μ u → κ (x (ix2 i u)) = (σ u : EReal)) (h2 : ∀ u : Fin 8192, ¬ μ u → x (ix2 i u) = bad)
    (z : EReal × BitVec 32) (hz : z = (bad, 0#32)) :
    ∃ p : Fin 8192, ((Host.argReduceFiber x (iotaInDim S8192x8192 32 1) h (ix1 i)).foldl f z).2 = BitVec.ofNat 32 p.val
      ∧ ((∀ u, u < 8192 → ¬ μ u) ∨ Best μ σ 8192 p) := by
  subst hf hz
  obtain ⟨g1, g2, g3⟩ := fold_inv hκ (Host.argReduceFiber x (iotaInDim S8192x8192 32 1) h (ix1 i)) (bad, 0#32)
  generalize (Host.argReduceFiber x (iotaInDim S8192x8192 32 1) h (ix1 i)).foldl (better κ) (bad, 0#32) = r at g1 g2 g3 ⊢
  have hy : ∀ u : Fin 8192, (iotaInDim S8192x8192 32 1 : IVec S8192x8192 32) (ix2 i u) = BitVec.ofNat 32 u.val := fun u => by pointwise []
  have g3' : ∀ u : Fin 8192, Ge κ r (x (ix2 i u), BitVec.ofNat 32 u.val) := fun u => g3 _ ((mem_fiber _ _ h i _).2 ⟨u, by rw [hy]⟩)
  have g1' : r = (bad, 0#32) ∨ ∃ p : Fin 8192, r = (x (ix2 i p), BitVec.ofNat 32 p.val) := g1.imp id fun hm => by
    obtain ⟨p, hp⟩ := (mem_fiber _ _ h i _).1 hm
    exact ⟨p, by rw [hp, hy]⟩
  by_cases hex : ∃ u, u < 8192 ∧ μ u
  · obtain ⟨u0, hu0, hm0⟩ := hex
    have hne : r.1 ≠ bad := by
      intro hr
      have k1 := h1 ⟨u0, hu0⟩ hm0
      rcases g3' ⟨u0, hu0⟩ with k | ⟨k, _⟩
      · rw [hr, hb] at k; exact not_lt_bot k
      · simp only at k
        rw [k, hr, hb] at k1
        exact absurd k1.symm (EReal.coe_ne_bot _)
    rcases g1' with rfl | ⟨p, rfl⟩
    · exact absurd rfl hne
    · have hp : μ p := by
        by_contra hn
        exact hne (h2 p hn)
      refine ⟨p, rfl, .inr ⟨p.isLt, hp, fun u hu hm => ?_, fun u hu hm => ?_⟩⟩
      · have k1 := h1 ⟨u, hu⟩ hm
        have k2 := h1 p hp
        rcases g3' ⟨u, hu⟩ with k | ⟨k, _⟩
        · simp only at k
          rw [k1, k2, EReal.coe_lt_coe_iff] at k
          exact k.le
        · simp only at k
          rw [k, k2, EReal.coe_eq_coe_iff] at k1
          exact k1.ge
      · have k1 := h1 ⟨u, hu.trans p.isLt⟩ hm
        have k2 := h1 p hp
        rcases g3' ⟨u, hu.trans p.isLt⟩ with k | ⟨_, k⟩
        · simp only at k
          rw [k1, k2, EReal.coe_lt_coe_iff] at k
          exact k
        · simp only at k
          rw [Idx.toInt_small (by omega), Idx.toInt_small (by omega)] at k
          omega
  · push Not at hex
    rcases g1' with rfl | ⟨p, rfl⟩
    · exact ⟨0, rfl, .inl hex⟩
    · exact ⟨p, rfl, .inl hex⟩

/-! ### Running counts -/

open Classical in
theorem csum_at (x : IVec S8192x8192 32) (μ : ℕ → Prop) (i p : Fin 8192)
    (hx : ∀ u : Fin 8192, x (ix2 i u) = BitVec.ofNat 32 (if μ u then 1 else 0)) : csum x (ix2 i p) = BitVec.ofNat 32 (cnt μ (p.val + 1)) := by
  have hc : ∀ n : ℕ, ((List.range n).map fun u => if μ u then 1 else 0).sum = cnt μ n := by
    intro n
    unfold cnt
    induction n with
    | zero => simp
    | succ n ih => rw [List.range_succ, List.map_append, List.sum_append, ih, Nat.count_succ]; simp
  unfold csum Host.reduceWindow
  refine (Routing.foldl_addi_ofNat _ _ (fun n => if 8191 ≤ p.val + n.val then (fun u => if μ u then 1 else 0) (p.val + n.val - 8191) else 0) (fun n _ => ?_) _ 0 ?_).trans ?_
  · have hn : n.val < 8192 := Nat.lt_of_lt_of_eq n.isLt (Routing.numel2 8192)
    have hs : ({ rank := S8192x8192.rank, size := ![1, 8192] } : Shape).rowMajor.symm n = ix2 (0 : Fin 1) (n.cast (Routing.numel2 8192)) :=
      Routing.symm2 n
    have hs0 : (({ rank := S8192x8192.rank, size := ![1, 8192] } : Shape).rowMajor.symm n ⟨0, by decide⟩).val = 0 := by rw [hs]; rfl
    have hs1 : (({ rank := S8192x8192.rank, size := ![1, 8192] } : Shape).rowMajor.symm n ⟨1, by decide⟩).val = n.val := by rw [hs]; rfl
    clear hs
    by_cases hp : 8191 ≤ p.val + n.val
    · rw [dif_pos (fun a => by
        match a with
        | ⟨0, _⟩ => show 0 ≤ i.val * 1 + (({ rank := S8192x8192.rank, size := ![1, 8192] } : Shape).rowMajor.symm n ⟨0, by decide⟩).val ∧ i.val * 1 + (({ rank := S8192x8192.rank, size := ![1, 8192] } : Shape).rowMajor.symm n ⟨0, by decide⟩).val - 0 < 8192; rw [hs0]; omega
        | ⟨1, _⟩ => show 8191 ≤ p.val * 1 + (({ rank := S8192x8192.rank, size := ![1, 8192] } : Shape).rowMajor.symm n ⟨1, by decide⟩).val ∧ p.val * 1 + (({ rank := S8192x8192.rank, size := ![1, 8192] } : Shape).rowMajor.symm n ⟨1, by decide⟩).val - 8191 < 8192; rw [hs1]; omega), if_pos hp]
      refine Eq.trans (congrArg x (funext fun a => Fin.ext ?_)) (hx ⟨p.val + n.val - 8191, by omega⟩)
      match a with
      | ⟨0, _⟩ => show i.val * 1 + (({ rank := S8192x8192.rank, size := ![1, 8192] } : Shape).rowMajor.symm n ⟨0, by decide⟩).val - 0 = i.val; rw [hs0]; omega
      | ⟨1, _⟩ => show p.val * 1 + (({ rank := S8192x8192.rank, size := ![1, 8192] } : Shape).rowMajor.symm n ⟨1, by decide⟩).val - 8191 = p.val + n.val - 8191; rw [hs1]; omega
    · rw [dif_neg (fun hin => hp (by
        have h1 : 8191 ≤ p.val * 1 + (({ rank := S8192x8192.rank, size := ![1, 8192] } : Shape).rowMajor.symm n ⟨1, by decide⟩).val := (hin (⟨1, Nat.lt_succ_self 1⟩ : Fin 2)).1
        rw [hs1] at h1; omega)), if_neg hp]
      rfl
  · pointwise []
  · rw [Nat.zero_add, Routing.map_finRange_val _ (fun n => if 8191 ≤ p.val + n then (fun u => if μ u then 1 else 0) (p.val + n - 8191) else 0)]
    rw [show ({ rank := S8192x8192.rank, size := ![1, 8192] } : Shape).numel = 8191 + 1 from Routing.numel2 8192]
    exact congrArg (BitVec.ofNat 32) ((Routing.sum_window (fun u => if μ u then 1 else 0) 8191 p.val (by omega)).trans (hc _))

/-! ### The reference's line -/

variable (X : FVec Ideal S8192x256 .f32) (T : IVec S8192 32) {x : ℕ → Fin 256 → ℝ} {lab : ℕ → BitVec 32}

theorem max_coe (u v : ℝ) : max (u : EReal) (v : EReal) = ((max u v : ℝ) : EReal) := (EReal.coe_strictMono.monotone.map_max).symm

theorem d2_at (hx : ∀ (i : Fin 8192) (k : Fin 256), (X (ix2 i k) : EReal) = (x i k : EReal)) (i j : Fin 8192) :
    (d2 X (ix2 i j) : EReal) = ((Spec.D2 x i j : ℝ) : EReal) := by
  have e : ∀ i j : Fin 8192, (∑ k : Fin 256, (X (ix2 i k) : EReal) * X (ix2 j k)) = ((Spec.P x i j : ℝ) : EReal) := fun i j => by
    unfold Spec.P
    rw [coe_sum]
    exact Finset.sum_congr rfl fun k _ => by rw [hx, hx, ← EReal.coe_mul]
  unfold d2
  pointwise []
  rw [e, e, e, c_two, ← EReal.coe_mul, ← EReal.coe_add, ← EReal.coe_sub]
  rfl

theorem dist_at (hx : ∀ (i : Fin 8192) (k : Fin 256), (X (ix2 i k) : EReal) = (x i k : EReal)) (i j : Fin 8192) :
    (dist X (ix2 i j) : EReal) = ((Spec.dist x i j : ℝ) : EReal) := by
  unfold dist
  pointwise []
  rw [d2_at X hx, c_eps, max_coe, Ideal.sqrt_coe, if_neg (not_lt.mpr (le_max_of_le_left eps_pos.le))]
  rfl

open Classical in
theorem mask_at (hl : ∀ i : Fin 8192, T (ix1 i) = lab i) (i j : Fin 8192) :
    mask T (ix2 i j) = if Spec.mu lab i j then 1#1 else 0#1 := by
  unfold mask
  pointwise []
  rw [hl, hl]
  unfold Spec.mu IntOp.cmpi
  by_cases h : lab j = lab i
  · simp [h]
  · rw [if_neg h]
    show BitVec.ofBool (lab i == lab j) = 0#1
    rw [beq_eq_false_iff_ne.2 (Ne.symm h)]
    rfl

/-- No two rows nearer than the clip unless they are the same row. -/
def Apart (x : ℕ → Fin 256 → ℝ) : Prop := ∀ i j, i < 8192 → j < 8192 → Spec.D2 x i j ≤ 0 ∨ eps < Spec.D2 x i j

theorem dist_le (ha : Apart x) (i u v : ℕ) (hi : i < 8192) (hu : u < 8192) (hv : v < 8192) :
    Spec.dist x i u ≤ Spec.dist x i v ↔ Spec.sg x i u ≤ Spec.sg x i v := by
  have hD : Spec.D2 x i u ≤ Spec.D2 x i v ↔ Spec.sg x i u ≤ Spec.sg x i v := by
    rw [Spec.D2_eq_sg, Spec.D2_eq_sg]
    constructor <;> intro h <;> linarith
  rw [← hD]
  unfold Spec.dist
  rw [Real.sqrt_le_sqrt_iff (le_max_of_le_left eps_pos.le)]
  have n1 := Spec.D2_nonneg x i u
  have n2 := Spec.D2_nonneg x i v
  have e := eps_pos
  rcases ha i u hi hu with h1 | h1 <;> rcases ha i v hi hv with h2 | h2
  · rw [max_eq_left (by linarith), max_eq_left (by linarith)]
    exact ⟨fun _ => by linarith, fun _ => le_rfl⟩
  · rw [max_eq_left (by linarith), max_eq_right h2.le]
    exact ⟨fun _ => by linarith, fun _ => h2.le⟩
  · rw [max_eq_right h1.le, max_eq_left (by linarith)]
    exact ⟨fun h => by linarith, fun h => by linarith⟩
  · rw [max_eq_right h1.le, max_eq_right h2.le]

end Cert.RefRead

end
-- ==== Proof.Val.RefPick.lean ====
module

public import proofs.«01_k».proof.Proof.Val.Ref

@[expose] public section

set_option maxRecDepth 16384

noncomputable section

namespace Cert.RefRead

open Idealize.ShloMosaic Idealize.SL.Sem
open Cert.ReferenceIdeal Cert.ReferenceIdeal.Facts₀ Cert.ReferenceIdeal.Facts
open Cert.Lane Cert.Consts

/-! ### The columns the reference's line picks -/

variable (X : FVec Ideal S8192x256 .f32) (T : IVec S8192 32) {x : ℕ → Fin 256 → ℝ} {lab : ℕ → BitVec 32}

/-- The matrix the hardest positive is picked from. -/
def dpos : FVec Ideal S8192x8192 .f32 := select (mask T) (dist X) (broadcastInDim S8192x8192 ![] Gen.bcast_S_S8192x8192 (constant (F := Ideal) S_ .f32 0xFF800000#32))

/-- The matrix the hardest negative is picked from. -/
def dneg : FVec Ideal S8192x8192 .f32 := select (mask T) (broadcastInDim S8192x8192 ![] Gen.bcast_S_S8192x8192 (constant (F := Ideal) S_ .f32 0x7F800000#32)) (dist X)

theorem cpos_fun : cpos X T = fun j =>
    (Host.argReduce reducer_argmax_f32_i32 (dpos X T) (iotaInDim S8192x8192 32 1) (constant (F := Ideal) S_ .f32 0xFF800000#32) (constantI S_ 32 0#32)
      Gen.reducesTo_S8192x8192_S8192_d1 Gen.h_S_ j).2 := by
  unfold cpos dpos
  with_reducible rfl

theorem cneg_fun : cneg X T = fun j =>
    (Host.argReduce reducer_argmin_f32_i32 (dneg X T) (iotaInDim S8192x8192 32 1) (constant (F := Ideal) S_ .f32 0x7F800000#32) (constantI S_ 32 0#32)
      Gen.reducesTo_S8192x8192_S8192_d1 Gen.h_S_ j).2 := by
  unfold cneg dneg
  with_reducible rfl

theorem select_one {α : Type} (a b : α) : Scalar.select 1#1 a b = a := rfl
theorem select_zero {α : Type} (a b : α) : Scalar.select 0#1 a b = b := rfl

theorem selpos_at (hx : ∀ (i : Fin 8192) (k : Fin 256), (X (ix2 i k) : EReal) = (x i k : EReal)) (hl : ∀ i : Fin 8192, T (ix1 i) = lab i)
    (i u : Fin 8192) (hu : Spec.mu lab i u) :
    (dpos X T (ix2 i u) : EReal) = ((Spec.dist x i u : ℝ) : EReal) := by
  unfold dpos
  pointwise []
  rw [mask_at T hl, if_pos hu, select_one]
  exact dist_at X hx i u

theorem selpos_not (hl : ∀ i : Fin 8192, T (ix1 i) = lab i) (i u : Fin 8192) (hu : ¬ Spec.mu lab i u) :
    (dpos X T (ix2 i u) : EReal) = ⊥ := by
  unfold dpos
  pointwise []
  rw [mask_at T hl, if_neg hu, select_zero]
  exact c_bot

theorem selneg_at (hx : ∀ (i : Fin 8192) (k : Fin 256), (X (ix2 i k) : EReal) = (x i k : EReal)) (hl : ∀ i : Fin 8192, T (ix1 i) = lab i)
    (i u : Fin 8192) (hu : ¬ Spec.mu lab i u) :
    -(dneg X T (ix2 i u) : EReal) = ((-Spec.dist x i u : ℝ) : EReal) := by
  unfold dneg
  pointwise []
  rw [mask_at T hl, if_neg hu, select_zero, EReal.coe_neg, dist_at X hx i u]

theorem selneg_not (hl : ∀ i : Fin 8192, T (ix1 i) = lab i) (i u : Fin 8192) (hu : ¬ ¬ Spec.mu lab i u) :
    (dneg X T (ix2 i u) : EReal) = ⊤ := by
  unfold dneg
  pointwise []
  rw [mask_at T hl, if_pos (not_not.1 hu), select_one]
  exact c_top

/-- The column an arg-reduction of a row of any matrix picks. -/
theorem argpick {κ : EReal → EReal} (hκ : Function.Injective κ) (f : EReal × BitVec 32 → EReal × BitVec 32 → EReal × BitVec 32) (hf : f = better κ)
    (D : FVec Ideal S8192x8192 .f32) (w : FVec Ideal S_ .f32) (i : Fin 8192) (bad : EReal) (hb : κ bad = ⊥)
    (μ : ℕ → Prop) (σ : ℕ → ℝ) (h1 : ∀ u : Fin 8192, μ u → κ (D (ix2 i u)) = (σ u : EReal)) (h2 : ∀ u : Fin 8192, ¬ μ u → D (ix2 i u) = bad)
    (hw : ∀ j, w j = bad) :
    ∃ p : Fin 8192, (Host.argReduce (F := Ideal) f D (iotaInDim S8192x8192 32 1) w (constantI S_ 32 0#32) Gen.reducesTo_S8192x8192_S8192_d1 Gen.h_S_ (ix1 i)).2
        = BitVec.ofNat 32 p.val
      ∧ ((∀ u, u < 8192 → ¬ μ u) ∨ Best μ σ 8192 p) := by
  rw [Ideal.argReduce_eq_reduce2, Host.reduce2_eq_foldl_fiber]
  have hz : ((w (Shape.Idx.first Gen.h_S_), (constantI S_ 32 0#32) (Shape.Idx.first Gen.h_S_)) : EReal × BitVec 32) = (bad, 0#32) :=
    congrArg (fun v : EReal => (v, 0#32)) (hw _)
  exact picked hκ f hf D Gen.reducesTo_S8192x8192_S8192_d1 i bad hb μ σ h1 h2 _ hz

section Line

variable (hx : ∀ (i : Fin 8192) (k : Fin 256), (X (ix2 i k) : EReal) = (x i k : EReal)) (hl : ∀ i : Fin 8192, T (ix1 i) = lab i) (ha : Apart x)
include hx hl ha

theorem cpos_at (i : Fin 8192) : ∃ p : Fin 8192, cpos X T (ix1 i) = BitVec.ofNat 32 p.val
    ∧ ((∀ u, u < 8192 → ¬ Spec.mu lab i u) ∨ Best (Spec.mu lab i) (Spec.sg x i) 8192 p) := by
  obtain ⟨p, hp, hb⟩ := argpick (κ := fun v => v) (fun _ _ h => h) _ argmax_eq (dpos X T) (constant (F := Ideal) S_ .f32 0xFF800000#32) i ⊥ rfl
    (Spec.mu lab i) (Spec.dist x i) (selpos_at X T hx hl i) (selpos_not X T hl i) (fun _ => c_bot)
  exact ⟨p, (congrFun (cpos_fun X T) (ix1 i)).trans hp, hb.imp id fun h => h.mono fun u v hu hv => dist_le ha i u v i.isLt hu hv⟩

theorem cneg_at (i : Fin 8192) : ∃ p : Fin 8192, cneg X T (ix1 i) = BitVec.ofNat 32 p.val
    ∧ ((∀ u, u < 8192 → ¬ ¬ Spec.mu lab i u) ∨ Best (fun u => ¬ Spec.mu lab i u) (fun u => -Spec.sg x i u) 8192 p) := by
  obtain ⟨p, hp, hb⟩ := argpick (κ := fun v => -v) neg_injective _ argmin_eq (dneg X T) (constant (F := Ideal) S_ .f32 0x7F800000#32) i ⊤ EReal.neg_top
    (fun u => ¬ Spec.mu lab i u) (fun u => -Spec.dist x i u) (selneg_at X T hx hl i) (selneg_not X T hl i) (fun _ => c_top)
  refine ⟨p, (congrFun (cneg_fun X T) (ix1 i)).trans hp, hb.imp id fun h => h.mono fun u v hu hv => ?_⟩
  rw [neg_le_neg_iff, neg_le_neg_iff]
  exact dist_le ha i v u i.isLt hv hu

end Line

end Cert.RefRead

end
-- ==== Proof.Val.RefOut.lean ====
module

public import proofs.«01_k».proof.Proof.Val.RefPick

@[expose] public section

set_option maxRecDepth 16384

noncomputable section

namespace Cert.RefRead

open Idealize.ShloMosaic Idealize.SL.Sem
open Cert.ReferenceIdeal Cert.ReferenceIdeal.Facts₀ Cert.ReferenceIdeal.Facts
open Cert.Lane Cert.Consts

/-! ### What the reference's line gives -/

variable (X : FVec Ideal S8192x256 .f32) (T : IVec S8192 32) {x : ℕ → Fin 256 → ℝ} {lab : ℕ → BitVec 32}

theorem pair_0 (a b : IVec S8192 32) (i : Fin 8192) {n : ℕ} (h : Scalar.select (IntOp.cmpi .slt (a (ix1 i)) 0#32) (IntOp.addi (a (ix1 i)) 8192#32) (a (ix1 i)) = BitVec.ofNat 32 n) :
    pair a b (ix2 i 0) = BitVec.ofNat 32 n := by
  rw [← h]
  unfold pair wrap
  pointwise []

theorem pair_1 (a b : IVec S8192 32) (i : Fin 8192) {n : ℕ} (h : Scalar.select (IntOp.cmpi .slt (b (ix1 i)) 0#32) (IntOp.addi (b (ix1 i)) 8192#32) (b (ix1 i)) = BitVec.ofNat 32 n) :
    pair a b (ix2 i 1) = BitVec.ofNat 32 n := by
  rw [← h]
  unfold pair wrap
  pointwise []

theorem rows_word (i : Fin 8192) : rows (ix1 i) = BitVec.ofNat 32 i.val := by
  unfold rows
  pointwise []

theorem rows_wrap (i : Fin 8192) :
    Scalar.select (IntOp.cmpi .slt (rows (ix1 i)) 0#32) (IntOp.addi (rows (ix1 i)) 8192#32) (rows (ix1 i)) = BitVec.ofNat 32 i.val := by
  rw [rows_word]
  exact Idx.wrap_small i.isLt

theorem addf_at (a b : FVec Ideal S_ .f32) (y : S_.Idx) : (addf a b y : EReal) = a y + b y := rfl

/-- The running count at the column picked, less one. -/
theorem rank_at (M : IVec S8192x8192 32) (v : IVec S8192 32) (μ : ℕ → Prop) (σ : ℕ → ℝ) (i p : Fin 8192)
    (hM : ∀ u : Fin 8192, (μ u → M (ix2 i u) = 1#32) ∧ (¬ μ u → M (ix2 i u) = 0#32)) (hv : v (ix1 i) = BitVec.ofNat 32 p.val)
    (hb : (∀ u, u < 8192 → ¬ μ u) ∨ Best μ σ 8192 p) :
    Host.gather gather_S8192x8192_S8192x2_S8192_n_01_n_n_01_1_11 (csum M) (pair rows v) (ix1 i) = BitVec.ofNat 32 (Spec.rank μ σ) := by
  classical
  rw [Idx.pair_at (csum M) (pair rows v) i i p (pair_0 rows v i (rows_wrap i)) (pair_1 rows v i (by rw [hv]; exact Idx.wrap_small p.isLt)),
    csum_at M μ i p (fun u => by
      by_cases hu : μ u
      · rw [if_pos hu]; exact (hM u).1 hu
      · rw [if_neg hu]; exact (hM u).2 hu)]
  rcases hb with hn | hb
  · rw [Spec.rank_of_none hn]
    congr 1
    exact cnt_zero fun u hu => hn u (by omega)
  · rw [Spec.rank_of_best hb]

section Line

variable (hx : ∀ (i : Fin 8192) (k : Fin 256), (X (ix2 i k) : EReal) = (x i k : EReal)) (hl : ∀ i : Fin 8192, T (ix1 i) = lab i) (ha : Apart x)
include hx hl ha

theorem rj_at (i : Fin 8192) : rj X T (ix1 i) = BitVec.ofNat 32 (Spec.rj x lab i) - 1#32 := by
  obtain ⟨p, hp, hb⟩ := cpos_at X T hx hl ha i
  have h := rank_at (extui 32 (mask T) Gen.natLt_1_32) (cpos X T) (Spec.mu lab i) (Spec.sg x i) i p (fun u =>
    ⟨fun hu => by pointwise []; rw [mask_at T hl, if_pos hu]; rfl, fun hu => by pointwise []; rw [mask_at T hl, if_neg hu]; rfl⟩) hp hb
  unfold rj
  pointwise []
  exact congrArg (fun w : BitVec 32 => w - 1#32) h

theorem rk_at (i : Fin 8192) : rk X T (ix1 i) = BitVec.ofNat 32 (Spec.rk x lab i) - 1#32 := by
  obtain ⟨p, hp, hb⟩ := cneg_at X T hx hl ha i
  have h := rank_at (extui 32 (noti (mask T)) Gen.natLt_1_32) (cneg X T) (fun u => ¬ Spec.mu lab i u) (fun u => -Spec.sg x i u) i p (fun u =>
    ⟨fun hu => by pointwise []; rw [mask_at T hl, if_neg hu]; rfl, fun hu => by pointwise []; rw [mask_at T hl, if_pos (not_not.1 hu)]; rfl⟩) hp hb
  unfold rk
  pointwise []
  exact congrArg (fun w : BitVec 32 => w - 1#32) h

theorem rj_wrap (i : Fin 8192) : Scalar.select (IntOp.cmpi .slt (rj X T (ix1 i)) 0#32) (IntOp.addi (rj X T (ix1 i)) 8192#32) (rj X T (ix1 i))
    = BitVec.ofNat 32 (Spec.col (Spec.rj x lab i)) := by
  rw [rj_at X T hx hl ha]
  exact Idx.wrap_add (Spec.rank_le _ _)

theorem rk_wrap (i : Fin 8192) : Scalar.select (IntOp.cmpi .slt (rk X T (ix1 i)) 0#32) (IntOp.addi (rk X T (ix1 i)) 8192#32) (rk X T (ix1 i))
    = BitVec.ofNat 32 (Spec.col (Spec.rk x lab i)) := by
  rw [rk_at X T hx hl ha]
  exact Idx.wrap_add (Spec.rank_le _ _)

omit hl ha in
theorem look_at (a b : IVec S8192 32) (i : Fin 8192) (n k : ℕ) (hn : n < 8192) (hk : k < 8192)
    (h0 : Scalar.select (IntOp.cmpi .slt (a (ix1 i)) 0#32) (IntOp.addi (a (ix1 i)) 8192#32) (a (ix1 i)) = BitVec.ofNat 32 n)
    (h1 : Scalar.select (IntOp.cmpi .slt (b (ix1 i)) 0#32) (IntOp.addi (b (ix1 i)) 8192#32) (b (ix1 i)) = BitVec.ofNat 32 k) :
    (look (dist X) a b (ix1 i) : EReal) = ((Spec.dist x n k : ℝ) : EReal) := by
  unfold look
  rw [Idx.pair_at (dist X) (pair a b) i ⟨n, hn⟩ ⟨k, hk⟩ (pair_0 a b i h0) (pair_1 a b i h1)]
  exact dist_at X hx ⟨n, hn⟩ ⟨k, hk⟩

omit hx hl ha in
theorem mean_at (v : FVec Ideal S8192 .f32) (f : ℕ → ℝ) (h : ∀ i : Fin 8192, (v (ix1 i) : EReal) = ((f i : ℝ) : EReal)) (y : S_.Idx) :
    (mean v y : EReal) = (((∑ i : Fin 8192, f i) / 8192 : ℝ) : EReal) := by
  unfold mean
  pointwise []
  rw [c_8192, Finset.sum_congr rfl fun i _ => h i, ← coe_sum, Ideal.div_coe (by norm_num), ← EReal.coe_mul]
  congr 1
  ring

theorem ranking (i : Fin 8192) :
    (maximumf (addf (subf (look (dist X) rows (rj X T)) (look (dist X) rows (rk X T))) (broadcastInDim S8192 ![] Gen.bcast_S_S8192 (constant (F := Ideal) S_ .f32 0x3E99999A#32)))
      (broadcastInDim S8192 ![] Gen.bcast_S_S8192 (constant (F := Ideal) S_ .f32 0x00000000#32)) (ix1 i) : EReal) = ((Spec.rankLoss x lab i : ℝ) : EReal) := by
  have e1 := look_at X hx rows (rj X T) i i (Spec.col (Spec.rj x lab i)) i.isLt (Spec.col_lt (Spec.rank_le _ _)) (rows_wrap i) (rj_wrap X T hx hl ha i)
  have e2 := look_at X hx rows (rk X T) i i (Spec.col (Spec.rk x lab i)) i.isLt (Spec.col_lt (Spec.rank_le _ _)) (rows_wrap i) (rk_wrap X T hx hl ha i)
  generalize look (dist X) rows (rj X T) = a at e1 ⊢
  generalize look (dist X) rows (rk X T) = b at e2 ⊢
  pointwise []
  rw [e1, e2, c_margin, ← EReal.coe_sub, ← EReal.coe_add, ← EReal.coe_zero, max_coe]
  rfl

theorem reference_term (i : Fin 8192) :
    (Host.absf (subf (look (dist X) rows (rk X T)) (look (dist X) (rj X T) (rk X T))) (ix1 i) : EReal) = ((Spec.refLoss x lab i : ℝ) : EReal) := by
  have e1 := look_at X hx rows (rk X T) i i (Spec.col (Spec.rk x lab i)) i.isLt (Spec.col_lt (Spec.rank_le _ _)) (rows_wrap i) (rk_wrap X T hx hl ha i)
  have e2 := look_at X hx (rj X T) (rk X T) i (Spec.col (Spec.rj x lab i)) (Spec.col (Spec.rk x lab i)) (Spec.col_lt (Spec.rank_le _ _)) (Spec.col_lt (Spec.rank_le _ _))
    (rj_wrap X T hx hl ha i) (rk_wrap X T hx hl ha i)
  generalize look (dist X) rows (rk X T) = a at e1 ⊢
  generalize look (dist X) (rj X T) (rk X T) = b at e2 ⊢
  pointwise []
  rw [e1, e2, ← EReal.coe_sub, Ideal.absf_def, ← EReal.coe_neg, max_coe]
  rfl

/-- The reference's result: the loss. -/
theorem out_eq : out X T = fun _ : S_.Idx => ((Spec.loss x lab : ℝ) : EReal) := by
  have e1 := fun y => mean_at _ (Spec.rankLoss x lab) (ranking X T hx hl ha) y
  have e2 := fun y => mean_at _ (Spec.refLoss x lab) (reference_term X T hx hl ha) y
  funext y
  unfold out lossOf Spec.loss
  exact (addf_at _ _ y).trans (by rw [e1 y, e2 y, EReal.coe_add])

end Line

end Cert.RefRead

end
-- ==== Proof.Val.Pre.lean ====
module

public import proofs.«01_k».proof.Pre_separated
public import proofs.«01_k».proof.Proof.Val.RefOut
public import Idealize.ShloMosaic.Lib.ReduceAll
public import Idealize.ShloMosaic.Lib.Affine

@[expose] public section

set_option maxRecDepth 16384

noncomputable section

namespace Cert.Pre_separated

open Idealize.ShloMosaic
open Cert.Consts

instance facts : Facts where
  reducesTo_S8192x256_S8192_d1 := by decide
  h_S_ := by decide
  bcast_S8192_S8192x1_0 := by decide
  bcast_S8192_S1x8192_1 := by decide
  bcast_S8192x1_S8192x8192_0_1 := by decide
  bcast_S1x8192_S8192x8192_0_1 := by decide
  transposes_S8192x256_S256x8192_1_0 := by decide
  bcast_S_S8192x8192 := by decide
  bcast_S_S8192x256 := by decide
  reducesTo_S8192x256_S_d0_1 := by decide
  reducesTo_S8192x8192_S_d0_1 := by decide
  dot_S8192x256_S256x8192_S8192x8192_1_0_0_1_n_n_wf := by decide

theorem both {A B : IVec S_ 1} (h : andi A B = fun _ => 1#1) (y : S_.Idx) : A y = 1#1 ∧ B y = 1#1 :=
  IntOp.andi_eq_one.1 (congrFun h y)

theorem or_one {a b : BitVec 1} (h : IntOp.ori a b = 1#1) : a = 1#1 ∨ b = 1#1 := by revert a b; decide

instance : Subsingleton S_.Idx := ⟨fun a b => funext fun k => k.elim0⟩

theorem lt_one {a b : EReal} (h : Ideal.cmp .olt a b = 1#1) : a < b := by
  by_contra hn
  unfold Ideal.cmp at h
  simp [hn] at h

theorem le_one {a b : EReal} (h : Ideal.cmp .ole a b = 1#1) : a ≤ b := by
  by_contra hn
  unfold Ideal.cmp at h
  simp [hn] at h

theorem gt_one {a b : EReal} (h : Ideal.cmp .ogt a b = 1#1) : b < a := by
  by_contra hn
  unfold Ideal.cmp at h
  simp [hn] at h

/-- The precondition read off: every entry is finite, and every squared distance is not positive or beyond the clip. -/
theorem read (X : FVec Ideal S8192x256 .f32) (T : IVec S8192 32) (h : fn (F := Ideal) X T = fun _ => 1#1) :
    (∀ (i : Fin 8192) (k : Fin 256), max (X (ix2 i k) : EReal) (-(X (ix2 i k) : EReal)) < ⊤)
      ∧ ∀ i j : Fin 8192, (RefRead.d2 X (ix2 i j) : EReal) ≤ 0 ∨ (eps : EReal) < RefRead.d2 X (ix2 i j) := by
  unfold fn fn_part1 at h
  obtain ⟨h1, h2⟩ := both h (fun k => k.elim0)
  constructor
  · intro i k
    have e := Host.reduce_andi_all _ _ _ _ _ h1 (ix2 i k)
    pointwise [] at e
    rw [c_top] at e
    exact lt_one e
  · intro i j
    have e := Host.reduce_andi_all _ _ _ _ _ h2 (ix2 i j)
    have g : IntOp.ori (Ideal.cmp .ole (RefRead.d2 X (ix2 i j)) 0) (Ideal.cmp .ogt (RefRead.d2 X (ix2 i j)) (Ideal.ofBits .f32 0x2B8CBCCC#32)) = 1#1 := by
      unfold RefRead.d2
      pointwise [] at e
      pointwise []
      exact e
    rw [c_eps] at g
    exact (or_one g).imp le_one gt_one

/-- The rows as real numbers. -/
def rowsOf (X : FVec Ideal S8192x256 .f32) (i : ℕ) (k : Fin 256) : ℝ := if h : i < 8192 then (X (ix2 ⟨i, h⟩ k) : EReal).toReal else 0

/-- The labels by row number. -/
def labOf (T : IVec S8192 32) (i : ℕ) : BitVec 32 := if h : i < 8192 then T (ix1 ⟨i, h⟩) else 0#32

theorem labOf_at (T : IVec S8192 32) (i : Fin 8192) : T (ix1 i) = labOf T i := by
  unfold labOf; rw [dif_pos i.isLt]

theorem rowsOf_at (X : FVec Ideal S8192x256 .f32) (T : IVec S8192 32) (h : fn (F := Ideal) X T = fun _ => 1#1) (i : Fin 8192) (k : Fin 256) :
    (X (ix2 i k) : EReal) = ((rowsOf X i k : ℝ) : EReal) := by
  have e := (read X T h).1 i k
  rw [max_lt_iff] at e
  unfold rowsOf
  rw [dif_pos i.isLt]
  refine (EReal.coe_toReal e.1.ne fun hb => ?_).symm
  exact absurd e.2 (by rw [show (X (ix2 i k) : EReal) = ⊥ from hb, EReal.neg_bot]; exact lt_irrefl _)

theorem apart (X : FVec Ideal S8192x256 .f32) (T : IVec S8192 32) (h : fn (F := Ideal) X T = fun _ => 1#1) : RefRead.Apart (rowsOf X) := by
  intro i j hi hj
  have e := (read X T h).2 ⟨i, hi⟩ ⟨j, hj⟩
  rw [RefRead.d2_at X (rowsOf_at X T h) ⟨i, hi⟩ ⟨j, hj⟩] at e
  exact e.imp (fun e => EReal.coe_nonpos.1 e) (fun e => EReal.coe_lt_coe_iff.1 e)

end Cert.Pre_separated

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KB.Run
public import proofs.«01_k».proof.Proof.KI.Run
public import proofs.«01_k».proof.Proof.RefRun
public import proofs.«01_k».proof.Proof.Val.Loss
public import proofs.«01_k».proof.Proof.Val.RefStages
public import proofs.«01_k».proof.Proof.Val.Pre

@[expose] public section

set_option maxRecDepth 16384

noncomputable section

namespace Cert.Proof

open Idealize.ShloMosaic Idealize.SL.Sem

/-- The kernel and the reference give the same loss. -/
theorem same : algebraic_KernelIdeal_ReferenceIdeal_pre_separated (hKernelIdeal := Cert.KernelIdeal.Gen.facts)
    (hReferenceIdeal := Cert.ReferenceIdeal.Gen.facts) (hPre_separated := Cert.Pre_separated.facts) := by
  intro m g m' g' hP hA
  refine ⟨fun c => Cert.KernelIdeal.Hand.G2 m c (Proc.devRef .tc Cert.KernelIdeal.main_v13), ?_, ?_⟩
  · exact (θ_run _ _ _).mono (fun _ h => h.1) (Cert.KernelIdeal.Hand.run m g)
  · refine (θ_run _ _ _).mono (fun r h c => ?_) (θ_run_and (Cert.RefRead.run m' g') (Cert.RefRun.ref_frame m' g'))
    refine ⟨?_, h.2.1 c⟩
    have hp := hP c
    have h1 := h.1 c
    rw [(hA c).1, (hA c).2] at h1
    refine h1.trans ?_
    rw [Cert.RefRead.out_eq _ _ (Pre_separated.rowsOf_at _ _ hp) (Pre_separated.labOf_at _) (Pre_separated.apart _ _ hp)]
    exact (Cert.KernelIdeal.Val.result m c _ _ rfl rfl _ _ (Pre_separated.rowsOf_at _ _ hp) (Pre_separated.labOf_at _)).symm

theorem claim : Cert.Claim := by
  refine ⟨Cert.Kernel.Gen.facts, Cert.KernelIdeal.Gen.facts, Cert.ReferenceIdeal.Gen.facts, Cert.Pre_separated.facts, ?_, ?_, ?_, ?_, ?_, ?_, same⟩
  · exact fun m g _ => (θ_run _ _ _).mono (fun _ h => ⟨fun c => (h.1 c).2, h.2⟩) (Cert.Kernel.Hand.run m g)
  · exact fun m g _ => (θ_run _ _ _).mono (fun _ h => ⟨fun c => (h.1 c).2, h.2⟩) (Cert.KernelIdeal.Hand.run m g)
  · exact fun m g _ => (θ_run _ _ _).mono (fun _ h => ⟨fun c => (h.1 c).2, h.2⟩) (Cert.KernelIdeal.Hand.run m g)
  · exact fun m g _ => Cert.RefRun.ref_frame m g
  · exact fun m g _ => Cert.RefRun.ref_frame m g
  · trivial

end Cert.Proof

end
